-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S12288x2816 : Shape := ⟨2, ![12288, 2816]⟩
abbrev S12288x1 : Shape := ⟨2, ![12288, 1]⟩
abbrev S32 : Shape := ⟨1, ![32]⟩
abbrev S32x2816x2816 : Shape := ⟨3, ![32, 2816, 2816]⟩
abbrev S32x2816 : Shape := ⟨2, ![32, 2816]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S12288x2816 .fp8e4m3) (main_arg1 : FVec F S12288x1 .f32) (main_arg2 : IVec S32 32) (main_arg3 : FVec F S32x2816x2816 .fp8e4m3) (main_arg4 : FVec F S32x2816 .f32) : IVec S32 1 :=
  let main_c : IVec S_ 32 := constantI S_ 32 0#32
  let main_v0 : IVec S32 32 := broadcastInDim S32 ![] bcast_S_S32 main_c
  let main_v1 : IVec S32 1 := cmpi .sge main_arg2 main_v0
  let main_c_0 : IVec S_ 32 := constantI S_ 32 12288#32
  let main_v2 : IVec S32 32 := broadcastInDim S32 ![] bcast_S_S32 main_c_0
  let main_v3 : IVec S32 1 := cmpi .sle main_arg2 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg2 main_c_1
  let main_c_2 : IVec S_ 32 := constantI S_ 32 12288#32
  let main_v6 : IVec S_ 1 := cmpi .eq main_v5 main_c_2
  let main_v7 : IVec S32 1 := broadcastInDim S32 ![] bcast_S_S32 main_v6
  let main_v8 : IVec S32 1 := andi main_v4 main_v7
  main_v8
-- ==== Kernel.lean ====
abbrev S12288x2816 : Shape := ⟨2, ![12288, 2816]⟩
abbrev S12288x1 : Shape := ⟨2, ![12288, 1]⟩
abbrev S32 : Shape := ⟨1, ![32]⟩
abbrev S32x2816x2816 : Shape := ⟨3, ![32, 2816, 2816]⟩
abbrev S32x2816 : Shape := ⟨2, ![32, 2816]⟩
abbrev S_ : Shape := ⟨0, ![]⟩
abbrev S1 : Shape := ⟨1, ![1]⟩
abbrev S79 : Shape := ⟨1, ![79]⟩
abbrev S1x79 : Shape := ⟨2, ![1, 79]⟩
abbrev S32x1 : Shape := ⟨2, ![32, 1]⟩
abbrev S32x79 : Shape := ⟨2, ![32, 79]⟩
abbrev S79x1 : Shape := ⟨2, ![79, 1]⟩
abbrev S32x1x2816 : Shape := ⟨3, ![32, 1, 2816]⟩
abbrev S256x2816 : Shape := ⟨2, ![256, 2816]⟩
abbrev S256x1 : Shape := ⟨2, ![256, 1]⟩
abbrev S1x2816x2816 : Shape := ⟨3, ![1, 2816, 2816]⟩
abbrev S1x1x2816 : Shape := ⟨3, ![1, 1, 2816]⟩
abbrev S1x2816x256 : Shape := ⟨3, ![1, 2816, 256]⟩
abbrev S2816x256 : Shape := ⟨2, ![2816, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 97
  | .vmem => 10
  | .smem => 4
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S32, .i32⟩
  | .hbm, ⟨3, _⟩ => ⟨S32x2816x2816, .fp8e4m3⟩
  | .hbm, ⟨4, _⟩ => ⟨S32x2816, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S32, .i32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i1⟩
  | .hbm, ⟨45, _⟩ => ⟨S32, .i1⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S_, .i32⟩
  | .hbm, ⟨60, _⟩ => ⟨S32, .i32⟩
  | .hbm, ⟨61, _⟩ => ⟨S32, .i32⟩
  | .hbm, ⟨62, _⟩ => ⟨S1, .i32⟩
  | .hbm, ⟨63, _⟩ => ⟨S_, .i32⟩
  | .hbm, ⟨64, _⟩ => ⟨S79, .i32⟩
  | .hbm, ⟨65, _⟩ => ⟨S_, .i32⟩
  | .hbm, ⟨66, _⟩ => ⟨S_, .i32⟩
  | .hbm, ⟨67, _⟩ => ⟨S79, .i32⟩
  | .hbm, ⟨68, _⟩ => ⟨S79, .i32⟩
  | .hbm, ⟨69, _⟩ => ⟨S1x79, .i32⟩
  | .hbm, ⟨70, _⟩ => ⟨S32x1, .i32⟩
  | .hbm, ⟨71, _⟩ => ⟨S32x79, .i32⟩
  | .hbm, ⟨72, _⟩ => ⟨S32x79, .i32⟩
  | .hbm, ⟨73, _⟩ => ⟨S32x79, .i1⟩
  | .hbm, ⟨74, _⟩ => ⟨S32x79, .i32⟩
  | .hbm, ⟨75, _⟩ => ⟨S_, .i32⟩
  | .hbm, ⟨76, _⟩ => ⟨S_, .i32⟩
  | .hbm, ⟨77, _⟩ => ⟨S79, .i32⟩
  | .hbm, ⟨78, _⟩ => ⟨S79, .i1⟩
  | .hbm, ⟨79, _⟩ => ⟨S_, .i32⟩
  | .hbm, ⟨80, _⟩ => ⟨S79, .i32⟩
  | .hbm, ⟨81, _⟩ => ⟨S79, .i32⟩
  | .hbm, ⟨82, _⟩ => ⟨S79, .i32⟩
  | .hbm, ⟨83, _⟩ => ⟨S79x1, .i32⟩
  | .hbm, ⟨84, _⟩ => ⟨S79, .i32⟩
  | .hbm, ⟨85, _⟩ => ⟨S79, .i32⟩
  | .hbm, ⟨86, _⟩ => ⟨S_, .i32⟩
  | .hbm, ⟨87, _⟩ => ⟨S79, .i32⟩
  | .hbm, ⟨88, _⟩ => ⟨S79, .i1⟩
  | .hbm, ⟨89, _⟩ => ⟨S_, .i32⟩
  | .hbm, ⟨90, _⟩ => ⟨S79, .i32⟩
  | .hbm, ⟨91, _⟩ => ⟨S79, .i32⟩
  | .hbm, ⟨92, _⟩ => ⟨S79, .i32⟩
  | .hbm, ⟨93, _⟩ => ⟨S79x1, .i32⟩
  | .hbm, ⟨94, _⟩ => ⟨S79, .i32⟩
  | .hbm, ⟨95, _⟩ => ⟨S32x1x2816, .f32⟩
  | .hbm, ⟨96, _⟩ => ⟨S12288x2816, .bf16⟩
  | .local _ .vmem, ⟨0, _⟩ => ⟨S256x2816, .fp8e4m3⟩
  | .local _ .vmem, ⟨1, _⟩ => ⟨S256x2816, .fp8e4m3⟩
  | .local _ .vmem, ⟨2, _⟩ => ⟨S256x1, .f32⟩
  | .local _ .vmem, ⟨3, _⟩ => ⟨S256x1, .f32⟩
  | .local _ .vmem, ⟨4, _⟩ => ⟨S1x2816x2816, .fp8e4m3⟩
  | .local _ .vmem, ⟨5, _⟩ => ⟨S1x2816x2816, .fp8e4m3⟩
  | .local _ .vmem, ⟨6, _⟩ => ⟨S1x1x2816, .f32⟩
  | .local _ .vmem, ⟨7, _⟩ => ⟨S1x1x2816, .f32⟩
  | .local _ .vmem, ⟨8, _⟩ => ⟨S256x2816, .bf16⟩
  | .local _ .vmem, ⟨9, _⟩ => ⟨S256x2816, .bf16⟩
  | .local _ .smem, ⟨0, _⟩ => ⟨S79, .i32⟩
  | .local _ .smem, ⟨1, _⟩ => ⟨S79, .i32⟩
  | .local _ .smem, ⟨2, _⟩ => ⟨S32, .i32⟩
  | .local _ .smem, ⟨3, _⟩ => ⟨S1, .i32⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_c_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_call5_call0_v0 : Ref sig .tc := ⟨.hbm, 69, rfl⟩
abbrev main_call5_call0_v1 : Ref sig .tc := ⟨.hbm, 70, rfl⟩
abbrev main_call5_call0_v2 : Ref sig .tc := ⟨.hbm, 71, rfl⟩
abbrev main_call5_call0_v3 : Ref sig .tc := ⟨.hbm, 72, rfl⟩
abbrev main_call5_call0_v4 : Ref sig .tc := ⟨.hbm, 73, rfl⟩
abbrev main_call5_call0_v5 : Ref sig .tc := ⟨.hbm, 74, rfl⟩
abbrev main_call5_call0_c : Ref sig .tc := ⟨.hbm, 75, rfl⟩
abbrev main_c_6 : Ref sig .tc := ⟨.hbm, 76, rfl⟩
abbrev main_v21 : Ref sig .tc := ⟨.hbm, 77, rfl⟩
abbrev main_v22 : Ref sig .tc := ⟨.hbm, 78, rfl⟩
abbrev main_c_7 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_8 : Ref sig .tc := ⟨.hbm, 86, rfl⟩
abbrev main_v29 : Ref sig .tc := ⟨.hbm, 87, rfl⟩
abbrev main_v30 : Ref sig .tc := ⟨.hbm, 88, rfl⟩
abbrev main_c_9 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v38 : Ref sig .tc := ⟨.hbm, 95, rfl⟩
abbrev main_v39 : Ref sig .tc := ⟨.hbm, 96, rfl⟩
abbrev main_v20 : Ref sig .tc := ⟨.smem, 0, rfl⟩
abbrev main_v36 : Ref sig .tc := ⟨.smem, 1, rfl⟩
abbrev main_v1 : Ref sig .tc := ⟨.smem, 2, rfl⟩
abbrev main_v37 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![79], ![false]⟩

abbrev pre0 : Pipeline.Prefetch sig := ⟨4, ![main_v20.idx, main_v36.idx, main_v1.idx, main_v37.idx], fun | 0 => main_v20.names | 1 => main_v36.names | 2 => main_v1.names | 3 => main_v37.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (v5 : BitVec 32) : Fin 1 → Nat :=
  let v6 : Index := Scalar.indexCast v5
  ![v6.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v5 : BitVec 32) : Prop :=
  (∀ (k0_h1 : k0_cond1 i v0 = 1#1), ∀ a, (k0_off3 v5) a + S1.size a ≤ S32.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1.size a ≤ S32.size a := fun i v0 v5 k0_hw1 k0_h1 => k0_hw1 k0_h1

def k0_off4 (i : grid0.Coords) : Fin 1 → Nat :=
  let arg0 : BitVec 32 := BitVec.ofNat 32 (i 0).val
  let v8 : Index := Scalar.indexCast arg0
  ![v8.toNat]
def cc0_transform_0 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S79.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S79) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S79.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S79) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S12288x2816 : Shape := ⟨2, ![12288, 2816]⟩
abbrev S12288x1 : Shape := ⟨2, ![12288, 1]⟩
abbrev S32 : Shape := ⟨1, ![32]⟩
abbrev S32x2816x2816 : Shape := ⟨3, ![32, 2816, 2816]⟩
abbrev S32x2816 : Shape := ⟨2, ![32, 2816]⟩
abbrev S1 : Shape := ⟨1, ![1]⟩
abbrev S31 : Shape := ⟨1, ![31]⟩
abbrev S_ : Shape := ⟨0, ![]⟩
abbrev S12288 : Shape := ⟨1, ![12288]⟩
abbrev S32x1 : Shape := ⟨2, ![32, 1]⟩
abbrev S1x1 : Shape := ⟨2, ![1, 1]⟩
abbrev S1x2816x2816 : Shape := ⟨3, ![1, 2816, 2816]⟩
abbrev S2816x2816 : Shape := ⟨2, ![2816, 2816]⟩

abbrev nBuf : Space → Nat
  | .hbm => 68
  | .vmem => 6
  | .smem => 0
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S32, .i32⟩
  | .hbm, ⟨3, _⟩ => ⟨S32x2816x2816, .fp8e4m3⟩
  | .hbm, ⟨4, _⟩ => ⟨S32x2816, .f32⟩
  | .hbm, ⟨5, _⟩ => ⟨S32, .i32⟩
  | .hbm, ⟨6, _⟩ => ⟨S1, .i32⟩
  | .hbm, ⟨7, _⟩ => ⟨S31, .i32⟩
  | .hbm, ⟨8, _⟩ => ⟨S32, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S_, .i32⟩
  | .hbm, ⟨17, _⟩ => ⟨S12288, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S_, .i32⟩
  | .hbm, ⟨27, _⟩ => ⟨S32, .i32⟩
  | .hbm, ⟨28, _⟩ => ⟨S12288, .i32⟩
  | .hbm, ⟨29, _⟩ => ⟨S_, .i32⟩
  | .hbm, ⟨30, _⟩ => ⟨S_, .i32⟩
  | .hbm, ⟨31, _⟩ => ⟨S12288, .i32⟩
  | .hbm, ⟨32, _⟩ => ⟨S_, .i32⟩
  | .hbm, ⟨33, _⟩ => ⟨S12288, .i32⟩
  | .hbm, ⟨34, _⟩ => ⟨S12288, .i32⟩
  | .hbm, ⟨35, _⟩ => ⟨S_, .i32⟩
  | .hbm, ⟨36, _⟩ => ⟨S12288, .i32⟩
  | .hbm, ⟨37, _⟩ => ⟨S12288, .i1⟩
  | .hbm, ⟨38, _⟩ => ⟨S_, .i32⟩
  | .hbm, ⟨39, _⟩ => ⟨S12288, .i32⟩
  | .hbm, ⟨40, _⟩ => ⟨S12288, .i32⟩
  | .hbm, ⟨41, _⟩ => ⟨S12288, .i32⟩
  | .hbm, ⟨42, _⟩ => ⟨S12288x1, .i32⟩
  | .hbm, ⟨43, _⟩ => ⟨S1, .i32⟩
  | .hbm, ⟨44, _⟩ => ⟨S_, .i32⟩
  | .hbm, ⟨45, _⟩ => ⟨S12288x1, .i32⟩
  | .hbm, ⟨46, _⟩ => ⟨S12288x1, .i1⟩
  | .hbm, ⟨47, _⟩ => ⟨S1x1, .i32⟩
  | .hbm, ⟨48, _⟩ => ⟨S12288x1, .i32⟩
  | .hbm, ⟨49, _⟩ => ⟨S12288x1, .i1⟩
  | .hbm, ⟨50, _⟩ => ⟨S12288x1, .i1⟩
  | .hbm, ⟨51, _⟩ => ⟨S_, .i1⟩
  | .hbm, ⟨52, _⟩ => ⟨S12288, .i1⟩
  | .hbm, ⟨53, _⟩ => ⟨S12288, .i32⟩
  | .hbm, ⟨54, _⟩ => ⟨S_, .i32⟩
  | .hbm, ⟨55, _⟩ => ⟨S12288, .i32⟩
  | .hbm, ⟨56, _⟩ => ⟨S12288, .i32⟩
  | .hbm, ⟨57, _⟩ => ⟨S12288x1, .i32⟩
  | .hbm, ⟨58, _⟩ => ⟨S_, .i32⟩
  | .hbm, ⟨59, _⟩ => ⟨S12288, .i32⟩
  | .hbm, ⟨60, _⟩ => ⟨S12288, .i1⟩
  | .hbm, ⟨61, _⟩ => ⟨S_, .i32⟩
  | .hbm, ⟨62, _⟩ => ⟨S12288, .i32⟩
  | .hbm, ⟨63, _⟩ => ⟨S12288, .i32⟩
  | .hbm, ⟨64, _⟩ => ⟨S12288, .i32⟩
  | .hbm, ⟨65, _⟩ => ⟨S12288x1, .i32⟩
  | .hbm, ⟨66, _⟩ => ⟨S12288x2816, .f32⟩
  | .hbm, ⟨67, _⟩ => ⟨S12288x2816, .bf16⟩
  | .local _ .vmem, ⟨0, _⟩ => ⟨S12288x1, .i32⟩
  | .local _ .vmem, ⟨1, _⟩ => ⟨S12288x2816, .fp8e4m3⟩
  | .local _ .vmem, ⟨2, _⟩ => ⟨S12288x1, .f32⟩
  | .local _ .vmem, ⟨3, _⟩ => ⟨S32x2816x2816, .fp8e4m3⟩
  | .local _ .vmem, ⟨4, _⟩ => ⟨S12288x2816, .f32⟩
  | .local _ .vmem, ⟨5, _⟩ => ⟨S12288x2816, .bf16⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_c_6 : Ref sig .tc := ⟨.hbm, 58, rfl⟩
abbrev main_v19 : Ref sig .tc := ⟨.hbm, 59, rfl⟩
abbrev main_v20 : Ref sig .tc := ⟨.hbm, 60, rfl⟩
abbrev main_c_7 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2816x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Setup.lean ====
/- The grouped product's launch, up to the body: what every buffer holds when the pipelined region is entered
   (`V`), the four tables the region reads ahead of the windows (`tbl`), the pipeline pinned at them (`cfgM`), and
   the block each input window's staging buffer holds (`iblk`). -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Kernel.Grouped

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The host operations before the region, in order. -/
abbrev hostAll : List (List (HloOp τ sig (Elt F))) := [hostOps0, hostOps0_1, hostOps0_2, hostOps0_3, hostOps0_4, hostOps0_5, hostOps0_6, hostOps0_7, hostOps0_8, hostOps0_9, hostOps0_10]

/-- Core `c`'s TensorCore buffers when the region is entered: the launch memory after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 1600000 in
/-- @main up to the region: the host operations in their stretches. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; the tables' arithmetic proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S79 .i32 := Memref.whole main_v20
abbrev htbM0_0 : tbM0_0.IsWhole := Memref.isWhole_whole _
abbrev tbM0_1 : Memref sig .tc .smem S79 .i32 := Memref.whole main_v36
abbrev htbM0_1 : tbM0_1.IsWhole := Memref.isWhole_whole _
abbrev tbM0_2 : Memref sig .tc .smem S32 .i32 := Memref.whole main_v1
abbrev htbM0_2 : tbM0_2.IsWhole := Memref.isWhole_whole _
abbrev tbM0_3 : Memref sig .tc .smem S1 .i32 := Memref.whole main_v37
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x2816 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2816 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_fp8_matmul (grid0.coords t) (Memref.whole main_v20) (Memref.isWhole_whole _) (Memref.whole main_v36) (Memref.isWhole_whole _) (Memref.whole main_v1) (Memref.isWhole_whole _) (Memref.whole main_v37) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel.Grouped

end
-- ==== Proof.Plan.lean ====
module

public import Mathlib.Data.Nat.Count
public import Mathlib.Order.Monotone.Basic
public import Idealize.ShloMosaic.Lib.Routing.Count

/-!
# The schedule of the grouped product, in natural numbers

`12288` token rows are cut into `48` row tiles of `256`, and into `32` groups of consecutive rows, one per expert:
group `j` holds `s j` rows, from `E s j` up to `E s (j + 1)`.
A group with rows meets `nt s j` row tiles. The grid walks, group after group, over the pairs of a group and
a row tile it meets. There are `total s` such pairs, never more than `79`; pair `i` belongs to group
`g s i` and to row tile `t s i`. Past the last pair the tables repeat the last pair.

This module proves what the kernel needs of that walk. None of it is about programs.
-/

@[expose] public section

namespace Cert.Grouped.Plan

/-- Rows before group `k`. -/
def E (s : ℕ → ℕ) (k : ℕ) : ℕ := ((List.range k).map s).sum

/-- How many row tiles group `j` meets. -/
def nt (s : ℕ → ℕ) (j : ℕ) : ℕ := if 0 < s j then (E s (j + 1) - 1) / 256 - E s j / 256 + 1 else 0

/-- Pairs before group `k`. -/
def I (s : ℕ → ℕ) (k : ℕ) : ℕ := ((List.range k).map (nt s)).sum

/-- All pairs. -/
def total (s : ℕ → ℕ) : ℕ := I s 32

/-- The pair that grid step `i` stands at. -/
def at' (s : ℕ → ℕ) (i : ℕ) : ℕ := min i (total s - 1)

/-- The group of grid step `i`. -/
def g (s : ℕ → ℕ) (i : ℕ) : ℕ := Nat.count (fun k => I s (k + 1) ≤ at' s i) 32

/-- The row tile of grid step `i`. -/
def t (s : ℕ → ℕ) (i : ℕ) : ℕ := E s (g s i) / 256 + at' s i - I s (g s i)

/-- The group of row `R`. -/
def e (s : ℕ → ℕ) (R : ℕ) : ℕ := Nat.count (fun k => E s (k + 1) ≤ R) 32

/-! ## Counting the steps of a monotone sequence -/

section Count
variable {f : ℕ → ℕ} (hf : Monotone f) {n i : ℕ} (h0 : f 0 ≤ i) (hn : i < f n)
include hf h0 hn

/-- In a monotone sequence the number of members `f 1 … f n` at most `i` is the place where `i` lies. -/
theorem count_spec : Nat.count (fun k => f (k + 1) ≤ i) n < n ∧ f (Nat.count (fun k => f (k + 1) ≤ i) n) ≤ i
    ∧ i < f (Nat.count (fun k => f (k + 1) ≤ i) n + 1) := by
  have key : ∀ r, r < n → (f (r + 1) ≤ i ↔ r < Nat.count (fun k => f (k + 1) ≤ i) n) := fun r hr =>
    Idealize.ShloMosaic.Routing.lt_count_iff (Q := fun k => f (k + 1) ≤ i)
      (fun a b hab _ hb => le_trans (hf (by omega)) hb) hr
  have hn0 : 0 < n := by
    rcases Nat.eq_zero_or_pos n with h | h
    · subst h; omega
    · exact h
  have hc : Nat.count (fun k => f (k + 1) ≤ i) n < n := by
    by_contra hcon
    have h := (key (n - 1) (by omega)).2 (by omega)
    rw [Nat.sub_add_cancel hn0] at h
    omega
  refine ⟨hc, ?_, ?_⟩
  · rcases Nat.eq_zero_or_pos (Nat.count (fun k => f (k + 1) ≤ i) n) with h | h
    · rw [h]; exact h0
    · have h2 := (key (Nat.count (fun k => f (k + 1) ≤ i) n - 1) (by omega)).2 (by omega)
      rwa [Nat.sub_add_cancel h] at h2
  · by_contra hcon
    have h2 := (key _ hc).1 (by omega)
    omega

/-- That place is the only one. -/
theorem count_unique {k : ℕ} (hk : f k ≤ i) (hk' : i < f (k + 1)) : Nat.count (fun k => f (k + 1) ≤ i) n = k := by
  obtain ⟨_, h2, h3⟩ := count_spec hf h0 hn
  rcases lt_trichotomy (Nat.count (fun k => f (k + 1) ≤ i) n) k with h | h | h
  · have := hf (show Nat.count (fun k => f (k + 1) ≤ i) n + 1 ≤ k from h); omega
  · exact h
  · have := hf (show k + 1 ≤ Nat.count (fun k => f (k + 1) ≤ i) n from h); omega

end Count

/-! ## The two running sums -/

variable (s : ℕ → ℕ)

theorem E_zero : E s 0 = 0 := rfl
theorem I_zero : I s 0 = 0 := rfl
theorem E_succ (k : ℕ) : E s (k + 1) = E s k + s k := by simp [E, List.range_succ]
theorem I_succ (k : ℕ) : I s (k + 1) = I s k + nt s k := by simp [I, List.range_succ]
theorem E_mono : Monotone (E s) := monotone_nat_of_le_succ fun k => by rw [E_succ]; omega
theorem I_mono : Monotone (I s) := monotone_nat_of_le_succ fun k => by rw [I_succ]; omega

theorem nt_pos {j : ℕ} (h : 0 < s j) : nt s j = (E s (j + 1) - 1) / 256 - E s j / 256 + 1 := if_pos h
theorem nt_zero {j : ℕ} (h : s j = 0) : nt s j = 0 := if_neg (by omega)

/-- Where no pair is added, no row is added. -/
theorem flat {a b : ℕ} (hab : a ≤ b) (h : I s a = I s b) : E s a = E s b := by
  induction b, hab using Nat.le_induction with
  | base => rfl
  | succ b hb ih =>
    have h1 := I_mono s hb
    have h2 := I_succ s b
    rw [E_succ, ← ih (by omega)]
    rcases Nat.eq_zero_or_pos (s b) with hs | hs
    · omega
    · have := nt_pos s hs; omega

/-- The pairs before group `k`: none while there is no row, else at least one and at most one more per group than tiles begun. -/
theorem I_bound (k : ℕ) : (E s k = 0 → I s k = 0) ∧ (0 < E s k → 1 ≤ I s k ∧ I s k ≤ (E s k - 1) / 256 + k) := by
  induction k with
  | zero => exact ⟨fun _ => rfl, fun h => absurd h (by rw [E_zero]; omega)⟩
  | succ k ih =>
    have hE := E_succ s k
    have hI := I_succ s k
    rcases Nat.eq_zero_or_pos (s k) with hs | hs
    · have := nt_zero s hs
      refine ⟨fun h => ?_, fun h => ?_⟩
      · have := ih.1 (by omega); omega
      · have := ih.2 (by omega)
        rw [hE, hs, Nat.add_zero]
        omega
    · have hn := nt_pos s hs
      refine ⟨fun h => by omega, fun h => ?_⟩
      rcases Nat.eq_zero_or_pos (E s k) with h0 | h0
      · have := ih.1 h0; omega
      · have := ih.2 h0; omega

variable (hs : E s 32 = 12288)
include hs

/-- There is at least one pair and there are at most `79`. -/
theorem total_bounds : 1 ≤ total s ∧ total s ≤ 79 := by
  have := (I_bound s 32).2 (by omega)
  unfold total
  omega

/-- Where grid step `i` stands among the pairs. -/
theorem g_spec (i : ℕ) : g s i < 32 ∧ I s (g s i) ≤ at' s i ∧ at' s i < I s (g s i + 1) := by
  have ht := total_bounds s hs
  exact count_spec (I_mono s) (by rw [I_zero]; omega) (by show min i (total s - 1) < total s; omega)

theorem g_lt (i : ℕ) : g s i < 32 := (g_spec s hs i).1

/-- The group of a step has rows, and the step's tile lies between the group's first and last tile. -/
theorem step_spec (i : ℕ) : 0 < s (g s i) ∧ E s (g s i) / 256 ≤ t s i ∧ t s i ≤ (E s (g s i + 1) - 1) / 256
    ∧ E s (g s i + 1) ≤ 12288 := by
  obtain ⟨h1, h2, h3⟩ := g_spec s hs i
  have hI := I_succ s (g s i)
  have hE := E_succ s (g s i)
  have hpos : 0 < s (g s i) := by
    by_contra h
    have := nt_zero s (j := g s i) (by omega)
    omega
  have hn := nt_pos s hpos
  have hm := E_mono s (show g s i + 1 ≤ 32 from h1)
  refine ⟨hpos, ?_, ?_, by omega⟩ <;> unfold t <;> omega

theorem t_lt (i : ℕ) : t s i < 48 := by
  obtain ⟨_, _, h, h'⟩ := step_spec s hs i
  omega

/-- The walk starts at row `0`. -/
theorem first : E s (g s 0) = 0 ∧ t s 0 = 0 := by
  have ht := total_bounds s hs
  obtain ⟨h1, h2, h3⟩ := g_spec s hs 0
  have ha : at' s 0 = 0 := by unfold at'; omega
  have hf := flat s (Nat.zero_le (g s 0)) (by rw [I_zero]; omega)
  rw [E_zero] at hf
  refine ⟨hf.symm, ?_⟩
  unfold t; omega

/-- Past the last pair a step stands where the step before it stood. -/
theorem idle {i : ℕ} (hi : total s ≤ i + 1) : g s (i + 1) = g s i ∧ t s (i + 1) = t s i := by
  have ht := total_bounds s hs
  have ha : at' s (i + 1) = at' s i := by unfold at'; omega
  have hg : g s (i + 1) = g s i := by unfold g; rw [ha]
  exact ⟨hg, by unfold t; rw [hg, ha]⟩

/-- The last pair ends at the last row, in the last tile. -/
theorem last {i : ℕ} (hi : total s ≤ i + 1) : E s (g s i + 1) = 12288 ∧ t s i = 47 := by
  have ht := total_bounds s hs
  obtain ⟨h1, h2, h3⟩ := g_spec s hs i
  have ha : at' s i = total s - 1 := by unfold at'; omega
  have hm := I_mono s (show g s i + 1 ≤ 32 from h1)
  have hI : I s (g s i + 1) = I s 32 := by
    have : total s = I s 32 := rfl
    omega
  have hE := flat s (show g s i + 1 ≤ 32 from h1) hI
  have hstep := I_succ s (g s i)
  obtain ⟨hpos, hlo, hhi, _⟩ := step_spec s hs i
  have hn := nt_pos s hpos
  have : total s = I s 32 := rfl
  refine ⟨by omega, ?_⟩
  unfold t
  omega

/-- From one pair to the next: either the next tile of the same group, or the next group with rows, which starts
where this one ends. -/
theorem next {i : ℕ} (hi : i + 1 < total s) :
    (g s (i + 1) = g s i ∧ t s (i + 1) = t s i + 1)
      ∨ (E s (g s (i + 1)) = E s (g s i + 1) ∧ t s i = (E s (g s i + 1) - 1) / 256 ∧ t s (i + 1) = E s (g s i + 1) / 256) := by
  obtain ⟨h1, h2, h3⟩ := g_spec s hs i
  obtain ⟨k1, k2, k3⟩ := g_spec s hs (i + 1)
  have ha : at' s i = i := by unfold at'; omega
  have hb : at' s (i + 1) = i + 1 := by unfold at'; omega
  rw [ha] at h2 h3
  rw [hb] at k2 k3
  have hstep := I_succ s (g s i)
  obtain ⟨hpos, hlo, hhi, _⟩ := step_spec s hs i
  have hn := nt_pos s hpos
  rcases Nat.lt_or_ge (i + 1) (I s (g s i + 1)) with h | h
  · left
    have hg : g s (i + 1) = g s i := by
      unfold g
      rw [hb]
      exact count_unique (I_mono s) (by rw [I_zero]; omega) (show i + 1 < I s 32 from hi) (k := g s i) (by omega) h
    refine ⟨hg, ?_⟩
    unfold t
    rw [hg, ha, hb]
    omega
  · right
    have hle : g s i + 1 ≤ g s (i + 1) := by
      by_contra hcon
      have := I_mono s (show g s (i + 1) + 1 ≤ g s i + 1 by omega)
      omega
    have hm := I_mono s hle
    have hE := flat s hle (by omega)
    have hEs := E_succ s (g s i)
    refine ⟨hE.symm, ?_, ?_⟩
    · unfold t; rw [ha]; omega
    · unfold t; rw [hb, ← hE]; omega

/-- The tile stays, or moves on by one. -/
theorem t_next (i : ℕ) : t s (i + 1) = t s i ∨ t s (i + 1) = t s i + 1 := by
  rcases Nat.lt_or_ge (i + 1) (total s) with h | h
  · rcases next s hs h with ⟨_, h2⟩ | ⟨_, h2, h3⟩
    · exact Or.inr h2
    · omega
  · exact Or.inl (idle s hs h).2

/-- Where the tile stays, the next group starts where this one ends. -/
theorem stay {i : ℕ} (hi : i + 1 < total s) (h : t s (i + 1) = t s i) : E s (g s (i + 1)) = E s (g s i + 1) := by
  rcases next s hs hi with ⟨_, h2⟩ | ⟨h1, _, _⟩
  · omega
  · exact h1

/-- Where the tile moves on, the new tile has no row before the new group. -/
theorem fresh {i : ℕ} (hi : i + 1 < total s) (h : t s (i + 1) ≠ t s i) : E s (g s (i + 1)) ≤ t s (i + 1) * 256 := by
  obtain ⟨hpos, hlo, hhi, _⟩ := step_spec s hs i
  rcases next s hs hi with ⟨h1, h2⟩ | ⟨h1, h2, h3⟩
  · rw [h1]; omega
  · omega

/-- Where the tile moves on, and at the end, the tile that is left is complete. -/
theorem done {i : ℕ} (h : t s (i + 1) ≠ t s i ∨ total s ≤ i + 1) : (t s i + 1) * 256 ≤ E s (g s i + 1) := by
  obtain ⟨hpos, hlo, hhi, _⟩ := step_spec s hs i
  have hE := E_succ s (g s i)
  rcases Nat.lt_or_ge (i + 1) (total s) with hi | hi
  · rcases next s hs hi with ⟨h1, h2⟩ | ⟨h1, h2, h3⟩
    · obtain ⟨_, _, khi, _⟩ := step_spec s hs (i + 1)
      rw [h1, h2] at khi
      omega
    · omega
  · obtain ⟨h1, h2⟩ := last s hs hi
    omega

/-- Every row has its group. -/
theorem e_spec {R : ℕ} (hR : R < 12288) : e s R < 32 ∧ E s (e s R) ≤ R ∧ R < E s (e s R + 1) :=
  count_spec (E_mono s) (by rw [E_zero]; omega) (by omega)

/-- A row between a group's two ends belongs to that group. -/
theorem e_eq {R k : ℕ} (hR : R < 12288) (h1 : E s k ≤ R) (h2 : R < E s (k + 1)) : e s R = k :=
  count_unique (E_mono s) (by rw [E_zero]; omega) (by omega) h1 h2

end Cert.Grouped.Plan
-- ==== Proof.Words.lean ====
module

public import proofs.«01_k».proof.Proof.Plan
public import Idealize.ShloMosaic.Lib.Routing.Words
public import Idealize.ShloMosaic.Lib.Routing.OpsSearch
public import Idealize.ShloMosaic.Lib.Routing.OpsPair
public import Idealize.ShloMosaic.Lib.PlanTiles.Rows

/-!
# The kernel's four tables as words

The host computes the tables from the group sizes with 32-bit words. Here are those computations, operation by
operation, and for sizes that fit (`E s 32 = 12288`) the natural number that each word stands for:
the group and the row tile of each grid step (`Plan.g`, `Plan.t`), the first row of each group (`Plan.E`),
and the number of steps (`Plan.total`).
-/

@[expose] public section

namespace Cert.Grouped.Words

open Idealize.ShloMosaic Idealize.ShloMosaic.Routing Idealize.ShloMosaic.ValueIdx Idealize.ShloMosaic.WordCmp
open Cert.Grouped.Plan

/-! ## Shapes fit -/

theorem win32 : (shape1 32).ReduceWindows (![32] : Fin 1 → Nat) ![1] ![31] ![0] (shape1 32) := by decide
theorem pos0 : 0 < shape0.numel := by decide
theorem bc00 : shape0.BroadcastsInDim shape0 (![] : Fin 0 → Fin shape0.rank) := by decide
theorem bc32 : shape0.BroadcastsInDim (shape1 32) (![] : Fin 0 → Fin (shape1 32).rank) := by decide
theorem bc79 : shape0.BroadcastsInDim (shape1 79) (![] : Fin 0 → Fin (shape1 79).rank) := by decide
theorem slice31 : (shape1 32).Slices ![31] (shape1 1) := by decide
theorem cast10 : (shape1 1).ShapeCasts shape0 := by decide
theorem cast01 : shape0.ShapeCasts (shape1 1) := by decide
theorem row79 : (shape1 79).BroadcastsInDim (shape2 1 79) (![1] : Fin 1 → Fin (shape2 1 79).rank) := by decide
theorem rows79 : (shape2 1 79).BroadcastsInDim (shape2 32 79) (![0, 1] : Fin 2 → Fin (shape2 32 79).rank) := by decide
theorem col32 : (shape1 32).BroadcastsInDim (shape2 32 1) (![0] : Fin 1 → Fin (shape2 32 1).rank) := by decide
theorem cols32 : (shape2 32 1).BroadcastsInDim (shape2 32 79) (![0, 1] : Fin 2 → Fin (shape2 32 79).rank) := by decide
theorem col79 : (shape1 79).BroadcastsInDim (shape2 79 1) (![0] : Fin 1 → Fin (shape2 79 1).rank) := by decide
theorem red32 : (shape2 32 79).ReducesTo [0] (shape1 79) := by decide
theorem lt_1_32 : 1 < 32 := by decide
theorem take_wf : GatherDims.WF (shape1 32) (shape2 79 1) (shape1 79) [] [0] [] [0] [] 1 ![1] := by decide

/-- A read of a table of `32` entries at `79` places. -/
def take : GatherDims (shape1 32) (shape2 79 1) (shape1 79) where
  offsetDims := []
  collapsedSliceDims := [0]
  operandBatchingDims := []
  startIndicesBatchingDims := []
  startIndexMap := [0]
  indexVectorDim := 1
  sliceSizes := ![1]
  wf := take_wf

/-! ## The computations -/

/-- A running sum. -/
noncomputable def cum (x : IVec (shape1 32) 32) : IVec (shape1 32) 32 :=
  Host.reduceWindow IntOp.addi ![32] ![1] ![31] ![0] x (broadcastInDim shape0 ![] bc00 (constantI shape0 32 0#32)) win32 pos0

/-- One word at all places. -/
noncomputable def c32 (v : BitVec 32) : IVec (shape1 32) 32 := broadcastInDim (shape1 32) ![] bc32 (constantI shape0 32 v)
noncomputable def c79 (v : BitVec 32) : IVec (shape1 79) 32 := broadcastInDim (shape1 79) ![] bc79 (constantI shape0 32 v)

variable (x : IVec (shape1 32) 32)

/-- The first row of each group. -/
noncomputable def starts : IVec (shape1 32) 32 := subi (cum x) x
/-- The tile of each group's first row. -/
noncomputable def tileFirst : IVec (shape1 32) 32 := pyDiv bc32 (starts x) (constantI shape0 32 256#32)
/-- The tile of each group's last row. -/
noncomputable def tileLast : IVec (shape1 32) 32 := pyDiv bc32 (subi (cum x) (c32 1#32)) (constantI shape0 32 256#32)
/-- How many tiles each group meets. -/
noncomputable def tiles : IVec (shape1 32) 32 :=
  select (cmpi .sgt x (c32 0#32)) (addi (subi (tileLast x) (tileFirst x)) (c32 1#32)) (c32 0#32)
/-- Pairs up to and with each group. -/
noncomputable def pairs : IVec (shape1 32) 32 := cum (tiles x)
/-- Pairs before each group. -/
noncomputable def before : IVec (shape1 32) 32 := subi (pairs x) (tiles x)
/-- All pairs. -/
noncomputable def all0 : IVec shape0 32 := shapeCast shape0 (extractStridedSlice (shape1 1) ![31] (pairs x) slice31) cast10
/-- All pairs, as a table of one entry. -/
noncomputable def all1 : IVec (shape1 1) 32 := shapeCast (shape1 1) (all0 x) cast01
/-- The pair each grid step stands at. -/
noncomputable def place : IVec (shape1 79) 32 :=
  minsi (iotaInDim (shape1 79) 32 0) (broadcastInDim (shape1 79) ![] bc79 (subi (all0 x) (constantI shape0 32 1#32)))
/-- The group of each grid step. -/
noncomputable def groups : IVec (shape1 79) 32 :=
  Host.reduce IntOp.addi (extui 32 (cmpi .sle
    (broadcastInDim (shape2 32 79) ![0, 1] cols32 (broadcastInDim (shape2 32 1) ![0] col32 (pairs x)))
    (broadcastInDim (shape2 32 79) ![0, 1] rows79 (broadcastInDim (shape2 1 79) ![1] row79 (place x)))) lt_1_32)
    (constantI shape0 32 0#32) red32 pos0
/-- A negative index counts from the end. -/
noncomputable def wrap (y : IVec (shape1 79) 32) : IVec (shape1 79) 32 := select (cmpi .slt y (c79 0#32)) (addi y (c79 32#32)) y
/-- The row tile of each grid step. -/
noncomputable def rowTiles : IVec (shape1 79) 32 :=
  subi (addi (Host.gather take (tileFirst x) (broadcastInDim (shape2 79 1) ![0] col79 (wrap (groups x)))) (place x))
    (Host.gather take (before x) (broadcastInDim (shape2 79 1) ![0] col79 (wrap (groups x))))

/-! ## What the words stand for -/

section Values
variable {s : ℕ → ℕ} (hx : ∀ i : Fin 32, x (ix1 i) = BitVec.ofNat 32 (s i.val)) (hs : E s 32 = 12288)
include hx hs

theorem E_le (k : ℕ) (hk : k ≤ 32) : E s k ≤ 12288 := hs ▸ E_mono s hk

theorem s_le (i : Fin 32) : s i.val ≤ 12288 := by
  have := E_succ s i.val
  have := E_le x hx hs (i.val + 1) i.isLt
  omega

theorem cum_ap (i : Fin 32) : cum x (ix1 i) = BitVec.ofNat 32 (E s (i.val + 1)) :=
  cumsum1 (N := 32) (Nm1 := 31) rfl x s hx _ (bc0 _ _ _) _ _ i

theorem starts_ap (i : Fin 32) : starts x (ix1 i) = BitVec.ofNat 32 (E s i.val) := by
  unfold starts
  rw [subi_ap, cum_ap x hx hs, hx, ofNat32_sub (by rw [E_succ]; omega), E_succ, Nat.add_sub_cancel]

theorem tileFirst_ap (i : Fin 32) : tileFirst x (ix1 i) = BitVec.ofNat 32 (E s i.val / 256) :=
  pyDiv_ap _ _ _ _ (starts_ap x hx hs i) rfl (by have := E_le x hx hs i.val i.isLt.le; omega) (by decide) (by decide)

theorem tiles_ap (i : Fin 32) : tiles x (ix1 i) = BitVec.ofNat 32 (nt s i.val) := by
  have hE := E_le x hx hs (i.val + 1) i.isLt
  have hS := E_succ s i.val
  have h0 : ∀ v, c32 v (ix1 i) = v := fun v => bc0 _ _ _
  unfold tiles
  rw [select_at, cmpi_at, hx, h0, show (0#32 : BitVec 32) = BitVec.ofNat 32 0 from rfl,
    cmpi_sgt_ofNat (w := 32) (by have := s_le x hx hs i; omega) (by decide), select_decide]
  unfold nt
  by_cases h : 0 < s i.val
  · have hl : tileLast x (ix1 i) = BitVec.ofNat 32 ((E s (i.val + 1) - 1) / 256) :=
      pyDiv_ap _ _ _ _ (by rw [subi_ap, cum_ap x hx hs, h0, show (1#32 : BitVec 32) = BitVec.ofNat 32 1 from rfl, ofNat32_sub (by omega)]) rfl
        (by omega) (by decide) (by decide)
    rw [if_pos h, if_pos h, addi_ap, subi_ap, hl, tileFirst_ap x hx hs, h0, ofNat32_sub (by omega),
      show (1#32 : BitVec 32) = BitVec.ofNat 32 1 from rfl, BitVec.ofNat_add_ofNat]
  · rw [if_neg h, if_neg h]

theorem pairs_ap (i : Fin 32) : pairs x (ix1 i) = BitVec.ofNat 32 (I s (i.val + 1)) := by
  have h := tiles_ap x hx hs
  unfold pairs cum I
  generalize nt s = f at h ⊢
  generalize tiles x = y at h ⊢
  exact cumsum1 (N := 32) (Nm1 := 31) rfl y f h _ (bc0 _ _ _) _ _ i

theorem before_ap (i : Fin 32) : before x (ix1 i) = BitVec.ofNat 32 (I s i.val) := by
  unfold before
  rw [subi_ap, pairs_ap x hx hs, tiles_ap x hx hs, ofNat32_sub (by rw [I_succ]; omega), I_succ, Nat.add_sub_cancel]

theorem all0_ap : all0 x ix0 = BitVec.ofNat 32 (total s) := by
  unfold all0
  rw [shapeCast_apply (s := shape1 1) _ cast10 ix0 (ix1 (0 : Fin 1)) (by decide), slice1 31 _ _ (0 : Fin 1) (by decide)]
  exact pairs_ap x hx hs 31

theorem all1_ap : all1 x (ix1 (0 : Fin 1)) = BitVec.ofNat 32 (total s) := by
  unfold all1
  rw [shapeCast_apply (s := shape0) _ cast01 (ix1 (0 : Fin 1)) ix0 (by decide)]
  exact all0_ap x hx hs

theorem place_ap (i : Fin 79) : place x (ix1 i) = BitVec.ofNat 32 (at' s i.val) := by
  have ht := total_bounds s hs
  unfold place
  show IntOp.minsi (BitVec.ofNat 32 i.val) _ = _
  rw [bc0, subi_ap, all0_ap x hx hs, constantI_at, show (1#32 : BitVec 32) = BitVec.ofNat 32 1 from rfl, ofNat32_sub ht.1,
    PlanTiles.minsi_word (by have := i.isLt; omega) (by omega), Nat.min_comm]
  rfl

theorem groups_ap (i : Fin 79) : groups x (ix1 i) = BitVec.ofNat 32 (g s i.val) := by
  have ht := total_bounds s hs
  unfold groups
  apply BitVec.eq_of_toNat_eq
  have hlt := g_lt s hs i.val
  rw [StableHlo.Predicate.toNat_reduce_count_rows (by decide) _ lt_1_32 red32 pos0 (ix1 i), BitVec.toNat_ofNat,
    Nat.mod_eq_of_lt (by omega)]
  unfold g
  rw [← card_filter_fin 32 (fun k => I s (k + 1) ≤ at' s i.val)]
  refine congrArg Finset.card (Finset.filter_congr fun q _ => ?_)
  have hI : I s (q.val + 1) ≤ total s := I_mono s q.isLt
  have hat : at' s i.val ≤ total s := by unfold at'; omega
  show cmpi .sle _ _ (StableHlo.Predicate.ij q i) = 1#1 ↔ _
  rw [ij_eq_ix2, cmpi_at, bcRows, bcCols, pairs_ap x hx hs, place_ap x hx hs, cmpi_sle_ofNat_eq_one_iff (w := 32) (by omega) (by omega)]

theorem wrap_ap (i : Fin 79) : wrap (groups x) (ix1 i) = BitVec.ofNat 32 (g s i.val) := by
  have hlt := g_lt s hs i.val
  unfold wrap
  rw [select_at, cmpi_at, show c79 0#32 (ix1 i) = 0#32 from bc0 _ _ _, groups_ap x hx hs, wrap_of_lt]
  rw [BitVec.toNat_ofNat, Nat.mod_eq_of_lt (by omega)]
  omega

theorem rowTiles_ap (i : Fin 79) : rowTiles x (ix1 i) = BitVec.ofNat 32 (t s i.val) := by
  obtain ⟨hlt, hle, _⟩ := g_spec s hs i.val
  have hw : broadcastInDim (shape2 79 1) ![0] col79 (wrap (groups x)) (ix2 i (0 : Fin 1)) = BitVec.ofNat 32 (g s i.val) := by
    rw [bcCol, wrap_ap x hx hs]
  unfold rowTiles t
  rw [subi_ap, addi_ap, take_ap take rfl rfl rfl rfl _ _ i hlt (by omega) hw, take_ap take rfl rfl rfl rfl _ _ i hlt (by omega) hw,
    tileFirst_ap x hx hs, before_ap x hx hs, place_ap x hx hs, BitVec.ofNat_add_ofNat, ofNat32_sub (by dsimp only; omega)]

end Values

end Cert.Grouped.Words
-- ==== Proof.K.Tables.lean ====
/- What the four tables hold when the region is entered: the words of Proof/Words.lean, of the group sizes as launched. -/
module

public import proofs.«01_k».proof.Proof.K.Setup
public import proofs.«01_k».proof.Proof.Words
public import Idealize.ShloMosaic.Lib.StableHlo.RunRead

@[expose] public section

set_option maxRecDepth 16384

namespace Cert.Kernel.Grouped

open Cert.Kernel.Gen
open Idealize.ShloMosaic Idealize.ShloMosaic.TcCoe
open Cert.Grouped

variable {F : FTy → Type} [FloatOps F] (m : (ℓ : Loc nD τ sig) → Buf (Elt F) ℓ)

/-- The group sizes as launched. -/
abbrev sizes (c : Dev nD) : IVec (Routing.shape1 32) 32 := m ((c : Thread nD τ).loc main_arg2)

theorem V_starts (c : Dev nD) : V m c main_v1 = Words.starts (sizes m c) := by
  unfold V
  after_reads_simp
  simp -implicitDefEqProofs only [StableHlo.TRef.ofBuf_toBuf]
  simp -implicitDefEqProofs only [StableHlo.TRef.ofBuf, StableHlo.TRef.toBuf, cast_eq, id_eq]

  unfold Words.starts Words.cum
  rfl

theorem V_all (c : Dev nD) : V m c main_v37 = Words.all1 (sizes m c) := by
  unfold V
  after_reads_simp
  simp -implicitDefEqProofs only [StableHlo.TRef.ofBuf_toBuf]
  simp -implicitDefEqProofs only [StableHlo.TRef.ofBuf, StableHlo.TRef.toBuf, cast_eq, id_eq]

  unfold Words.all1 Words.all0 Words.pairs Words.tiles Words.tileLast Words.tileFirst Words.starts Words.cum Words.c32 Routing.pyDiv
  rfl

set_option maxHeartbeats 1600000 in
theorem V_groups (c : Dev nD) : V m c main_v20 = Words.groups (sizes m c) := by
  unfold V
  after_reads_simp
  simp -implicitDefEqProofs only [StableHlo.TRef.ofBuf_toBuf]
  simp -implicitDefEqProofs only [StableHlo.TRef.ofBuf, StableHlo.TRef.toBuf, cast_eq, id_eq]
  unfold Words.groups Words.place Words.all0 Words.pairs Words.tiles Words.tileLast Words.tileFirst Words.starts Words.cum Words.c32 Routing.pyDiv
  rfl

set_option maxHeartbeats 1600000 in
theorem V_rowTiles (c : Dev nD) : V m c main_v36 = Words.rowTiles (sizes m c) := by
  unfold V
  after_reads_simp
  simp -implicitDefEqProofs only [StableHlo.TRef.ofBuf_toBuf]
  simp -implicitDefEqProofs only [StableHlo.TRef.ofBuf, StableHlo.TRef.toBuf, cast_eq, id_eq]
  unfold Words.rowTiles Words.wrap Words.c79 Words.groups Words.before Words.place Words.all0 Words.pairs Words.tiles Words.tileLast Words.tileFirst Words.starts Words.cum Words.c32 Routing.pyDiv
  rfl

/-- The weight scales, each expert's row as a block of its own. -/
theorem V_scales (c : Dev nD) : V m c main_v38
    = shapeCast S32x1x2816 (m ((c : Thread nD τ).loc main_arg4) : (⟨S32x2816, .f32⟩ : BufTy).Contents (Elt F)) shapeCasts_S32x2816_S32x1x2816 := by
  unfold V
  after_reads_simp
  rfl

end Cert.Kernel.Grouped
-- ==== Proof.K.Body.lean ====
/- The kernel's body at one grid point: the words it reads, what it leaves in the output tile (`outv`), and its
   triple in the two cases of its guard. -/
module

public import proofs.«01_k».proof.Proof.K.Setup

@[expose] public section

-- membership in a rectangle of production extents (`View.cover_of_tiled`): the elaborator's structural look
-- recurses once per coordinate of the long axes
set_option maxRecDepth 16384

noncomputable section

namespace Cert.Kernel.Grouped

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the tables a grid point reads -/

/-- The number of work items: the one word of table 3. -/
abbrev wd3 (c : Dev nD) (xt3 : TbBuf0 (F := F) c tbM0_3) : BitVec 32 :=
  View.readAt (Elt F) tbM0_3.view (Rect.unit (s := S1) ![0] S1.size inb_S1_S1_0).toLoadRect xt3 (Shape.Idx.first (numel1_S1.symm ▸ Nat.one_pos))
/-- The group of work item `i`: a word of table 0. -/
abbrev wd0 (c : Dev nD) (i : grid0.Coords) (xt0 : TbBuf0 (F := F) c tbM0_0) : BitVec 32 :=
  View.readAt (Elt F) tbM0_0.view (Rect.unit (s := S79) (k0_off2 i) S1.size (k0_off2_inb i)).toLoadRect xt0 (Shape.Idx.first (numel1_S1.symm ▸ Nat.one_pos))
/-- The row tile of work item `i`: a word of table 1. -/
abbrev wd1 (c : Dev nD) (i : grid0.Coords) (xt1 : TbBuf0 (F := F) c tbM0_1) : BitVec 32 :=
  View.readAt (Elt F) tbM0_1.view (Rect.unit (s := S79) (k0_off4 i) S1.size (k0_off4_inb i)).toLoadRect xt1 (Shape.Idx.first (numel1_S1.symm ▸ Nat.one_pos))
/-- The first row of group `w0`: a word of table 2, at an index inside it. -/
abbrev wd2 (c : Dev nD) (w0 : BitVec 32) (h : ∀ a, k0_off3 w0 a + S1.size a ≤ S32.size a) (xt2 : TbBuf0 (F := F) c tbM0_2) : BitVec 32 :=
  View.readAt (Elt F) tbM0_2.view (Rect.unit (s := S32) (k0_off3 w0) S1.size h).toLoadRect xt2 (Shape.Idx.first (numel1_S1.symm ▸ Nat.one_pos))

/-! ## What the body leaves in the output tile -/

abbrev xR : Rect S256x2816 := Rect.unit (s := S256x2816) ![0, 0] S256x2816.size inb_S256x2816_S256x2816_0_0
abbrev xsR : Rect S256x1 := Rect.unit (s := S256x1) ![0, 0] S256x1.size inb_S256x1_S256x1_0_0
abbrev oR0 : Rect S256x2816 := Rect.unit (s := S256x2816) ![0, 0] S256x256.size inb_S256x2816_S256x256_0_0
abbrev wR0 : Rect S1x2816x2816 := Rect.unit (s := S1x2816x2816) ![0, 0, 0] S1x2816x256.size inb_S1x2816x2816_S1x2816x256_0_0_0
abbrev sR0 : Rect S1x1x2816 := Rect.unit (s := S1x1x2816) ![0, 0, 0] S1x1x256.size inb_S1x1x2816_S1x1x256_0_0_0
abbrev oR1 : Rect S256x2816 := Rect.unit (s := S256x2816) ![0, 256] S256x256.size inb_S256x2816_S256x256_0_256
abbrev wR1 : Rect S1x2816x2816 := Rect.unit (s := S1x2816x2816) ![0, 0, 256] S1x2816x256.size inb_S1x2816x2816_S1x2816x256_0_0_256
abbrev sR1 : Rect S1x1x2816 := Rect.unit (s := S1x1x2816) ![0, 0, 256] S1x1x256.size inb_S1x1x2816_S1x1x256_0_0_256
abbrev oR2 : Rect S256x2816 := Rect.unit (s := S256x2816) ![0, 512] S256x256.size inb_S256x2816_S256x256_0_512
abbrev wR2 : Rect S1x2816x2816 := Rect.unit (s := S1x2816x2816) ![0, 0, 512] S1x2816x256.size inb_S1x2816x2816_S1x2816x256_0_0_512
abbrev sR2 : Rect S1x1x2816 := Rect.unit (s := S1x1x2816) ![0, 0, 512] S1x1x256.size inb_S1x1x2816_S1x1x256_0_0_512
abbrev oR3 : Rect S256x2816 := Rect.unit (s := S256x2816) ![0, 768] S256x256.size inb_S256x2816_S256x256_0_768
abbrev wR3 : Rect S1x2816x2816 := Rect.unit (s := S1x2816x2816) ![0, 0, 768] S1x2816x256.size inb_S1x2816x2816_S1x2816x256_0_0_768
abbrev sR3 : Rect S1x1x2816 := Rect.unit (s := S1x1x2816) ![0, 0, 768] S1x1x256.size inb_S1x1x2816_S1x1x256_0_0_768
abbrev oR4 : Rect S256x2816 := Rect.unit (s := S256x2816) ![0, 1024] S256x256.size inb_S256x2816_S256x256_0_1024
abbrev wR4 : Rect S1x2816x2816 := Rect.unit (s := S1x2816x2816) ![0, 0, 1024] S1x2816x256.size inb_S1x2816x2816_S1x2816x256_0_0_1024
abbrev sR4 : Rect S1x1x2816 := Rect.unit (s := S1x1x2816) ![0, 0, 1024] S1x1x256.size inb_S1x1x2816_S1x1x256_0_0_1024
abbrev oR5 : Rect S256x2816 := Rect.unit (s := S256x2816) ![0, 1280] S256x256.size inb_S256x2816_S256x256_0_1280
abbrev wR5 : Rect S1x2816x2816 := Rect.unit (s := S1x2816x2816) ![0, 0, 1280] S1x2816x256.size inb_S1x2816x2816_S1x2816x256_0_0_1280
abbrev sR5 : Rect S1x1x2816 := Rect.unit (s := S1x1x2816) ![0, 0, 1280] S1x1x256.size inb_S1x1x2816_S1x1x256_0_0_1280
abbrev oR6 : Rect S256x2816 := Rect.unit (s := S256x2816) ![0, 1536] S256x256.size inb_S256x2816_S256x256_0_1536
abbrev wR6 : Rect S1x2816x2816 := Rect.unit (s := S1x2816x2816) ![0, 0, 1536] S1x2816x256.size inb_S1x2816x2816_S1x2816x256_0_0_1536
abbrev sR6 : Rect S1x1x2816 := Rect.unit (s := S1x1x2816) ![0, 0, 1536] S1x1x256.size inb_S1x1x2816_S1x1x256_0_0_1536
abbrev oR7 : Rect S256x2816 := Rect.unit (s := S256x2816) ![0, 1792] S256x256.size inb_S256x2816_S256x256_0_1792
abbrev wR7 : Rect S1x2816x2816 := Rect.unit (s := S1x2816x2816) ![0, 0, 1792] S1x2816x256.size inb_S1x2816x2816_S1x2816x256_0_0_1792
abbrev sR7 : Rect S1x1x2816 := Rect.unit (s := S1x1x2816) ![0, 0, 1792] S1x1x256.size inb_S1x1x2816_S1x1x256_0_0_1792
abbrev oR8 : Rect S256x2816 := Rect.unit (s := S256x2816) ![0, 2048] S256x256.size inb_S256x2816_S256x256_0_2048
abbrev wR8 : Rect S1x2816x2816 := Rect.unit (s := S1x2816x2816) ![0, 0, 2048] S1x2816x256.size inb_S1x2816x2816_S1x2816x256_0_0_2048
abbrev sR8 : Rect S1x1x2816 := Rect.unit (s := S1x1x2816) ![0, 0, 2048] S1x1x256.size inb_S1x1x2816_S1x1x256_0_0_2048
abbrev oR9 : Rect S256x2816 := Rect.unit (s := S256x2816) ![0, 2304] S256x256.size inb_S256x2816_S256x256_0_2304
abbrev wR9 : Rect S1x2816x2816 := Rect.unit (s := S1x2816x2816) ![0, 0, 2304] S1x2816x256.size inb_S1x2816x2816_S1x2816x256_0_0_2304
abbrev sR9 : Rect S1x1x2816 := Rect.unit (s := S1x1x2816) ![0, 0, 2304] S1x1x256.size inb_S1x1x2816_S1x1x256_0_0_2304
abbrev oR10 : Rect S256x2816 := Rect.unit (s := S256x2816) ![0, 2560] S256x256.size inb_S256x2816_S256x256_0_2560
abbrev wR10 : Rect S1x2816x2816 := Rect.unit (s := S1x2816x2816) ![0, 0, 2560] S1x2816x256.size inb_S1x2816x2816_S1x2816x256_0_0_2560
abbrev sR10 : Rect S1x1x2816 := Rect.unit (s := S1x1x2816) ![0, 0, 2560] S1x1x256.size inb_S1x1x2816_S1x1x256_0_0_2560

/-- One column tile: where `keep` is set the old contents `o`, elsewhere the scaled product of the row tile with a
    256-column slice of the group's matrix. -/
abbrev tileOut (keep : IVec S256x1 1) (x0 : Vec F S256x2816 .fp8e4m3) (x1 : Vec F S256x1 .f32) (w : Vec F S1x2816x256 .fp8e4m3) (s : Vec F S1x1x256 .f32) (o : Vec F S256x256 .bf16) : Vec F S256x256 .bf16 :=
  k0_pay6 keep x0 x1 w s o

/-- The output tile after an active grid point that found `Y` there: eleven column tiles, the last written first.
    `v7` is the first row of the group, `v9` the row tile. -/
def outv (v7 v9 : BitVec 32) (x0 : Vec F S256x2816 .fp8e4m3) (x1 : Vec F S256x1 .f32) (x2 : Vec F S1x2816x2816 .fp8e4m3) (x3 : Vec F S1x1x2816 .f32) (Y : Vec F S256x2816 .bf16) : Vec F S256x2816 .bf16 :=
  View.canon [⟨oR10, tileOut (k0_pay2 (F := F) v7 v9) (View.ld x0 xR) (View.ld x1 xsR) (View.ld x2 wR10) (View.ld x3 sR10) (View.ld Y oR10)⟩,
    ⟨oR9, tileOut (k0_pay2 (F := F) v7 v9) (View.ld x0 xR) (View.ld x1 xsR) (View.ld x2 wR9) (View.ld x3 sR9) (View.ld Y oR9)⟩,
    ⟨oR8, tileOut (k0_pay2 (F := F) v7 v9) (View.ld x0 xR) (View.ld x1 xsR) (View.ld x2 wR8) (View.ld x3 sR8) (View.ld Y oR8)⟩,
    ⟨oR7, tileOut (k0_pay2 (F := F) v7 v9) (View.ld x0 xR) (View.ld x1 xsR) (View.ld x2 wR7) (View.ld x3 sR7) (View.ld Y oR7)⟩,
    ⟨oR6, tileOut (k0_pay2 (F := F) v7 v9) (View.ld x0 xR) (View.ld x1 xsR) (View.ld x2 wR6) (View.ld x3 sR6) (View.ld Y oR6)⟩,
    ⟨oR5, tileOut (k0_pay2 (F := F) v7 v9) (View.ld x0 xR) (View.ld x1 xsR) (View.ld x2 wR5) (View.ld x3 sR5) (View.ld Y oR5)⟩,
    ⟨oR4, tileOut (k0_pay2 (F := F) v7 v9) (View.ld x0 xR) (View.ld x1 xsR) (View.ld x2 wR4) (View.ld x3 sR4) (View.ld Y oR4)⟩,
    ⟨oR3, tileOut (k0_pay2 (F := F) v7 v9) (View.ld x0 xR) (View.ld x1 xsR) (View.ld x2 wR3) (View.ld x3 sR3) (View.ld Y oR3)⟩,
    ⟨oR2, tileOut (k0_pay2 (F := F) v7 v9) (View.ld x0 xR) (View.ld x1 xsR) (View.ld x2 wR2) (View.ld x3 sR2) (View.ld Y oR2)⟩,
    ⟨oR1, tileOut (k0_pay2 (F := F) v7 v9) (View.ld x0 xR) (View.ld x1 xsR) (View.ld x2 wR1) (View.ld x3 sR1) (View.ld Y oR1)⟩,
    ⟨oR0, tileOut (k0_pay2 (F := F) v7 v9) (View.ld x0 xR) (View.ld x1 xsR) (View.ld x2 wR0) (View.ld x3 sR0) (View.ld Y oR0)⟩]

/-- The eleven column tiles cover the output tile. -/
theorem coverOut (p0 p1 p2 p3 p4 p5 p6 p7 p8 p9 p10 : Vec F S256x256 .bf16) (y : S256x2816.Idx) :
    ∃ pc ∈ ([⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S256x2816 .bf16)), y ∈ pc.1.set :=
  View.cover_of_tiled [⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] S256x256.size (by rfl) y

/-! ## The body's triple -/

set_option maxHeartbeats 4000000 in
/-- At an ACTIVE point (its number below the number of work items) the body leaves `outv` in the output tile. -/
theorem body_active (c : Dev nD) (i : grid0.Coords) (arg5 : Memref sig .tc .vmem S256x2816 .fp8e4m3) (harg5 : arg5.IsWhole) (arg6 : Memref sig .tc .vmem S256x1 .f32) (harg6 : arg6.IsWhole) (arg7 : Memref sig .tc .vmem S1x2816x2816 .fp8e4m3) (harg7 : arg7.IsWhole) (arg8 : Memref sig .tc .vmem S1x1x2816 .f32) (harg8 : arg8.IsWhole) (arg9 : Memref sig .tc .vmem S256x2816 .bf16) (harg9 : arg9.IsWhole)
    (x0 : Vec F S256x2816 .fp8e4m3) (x1 : Vec F S256x1 .f32) (x2 : Vec F S1x2816x2816 .fp8e4m3) (x3 : Vec F S1x1x2816 .f32) (Y : Vec F S256x2816 .bf16) (xt0 : TbBuf0 (F := F) c tbM0_0) (xt1 : TbBuf0 (F := F) c tbM0_1) (xt2 : TbBuf0 (F := F) c tbM0_2) (xt3 : TbBuf0 (F := F) c tbM0_3)
    (hc : k0_cond1 i (wd3 c xt3) = 1#1) (hk : k0_chk1 i (wd3 c xt3) (wd0 c i xt0)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (outv (wd2 c (wd0 c i xt0) (hk hc) xt2) (wd1 c i xt1) x0 x1 x2 x3 Y) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8_matmul i tbM0_0 htbM0_0 tbM0_1 htbM0_1 tbM0_2 htbM0_2 tbM0_3 htbM0_3 arg5 harg5 arg6 harg6 arg7 harg7 arg8 harg8 arg9 harg9) K := by
    intro E K
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    subst hf0 hf1 hf2 hf3 hf4
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      refine (View.read_writes_eq_canon _ _ _ (coverOut _ _ _ _ _ _ _ _ _ _ _)).trans ?_
      rfl
    isplitl [HT0]; · iexact HT0
    isplitl [HT1]; · iexact HT1
    isplitl [HT2]; · iexact HT2
    iexact HT3

set_option maxHeartbeats 4000000 in
/-- At an IDLE point (its number not below the number of work items) the body touches nothing. -/
theorem body_idle (c : Dev nD) (i : grid0.Coords) (arg5 : Memref sig .tc .vmem S256x2816 .fp8e4m3) (harg5 : arg5.IsWhole) (arg6 : Memref sig .tc .vmem S256x1 .f32) (harg6 : arg6.IsWhole) (arg7 : Memref sig .tc .vmem S1x2816x2816 .fp8e4m3) (harg7 : arg7.IsWhole) (arg8 : Memref sig .tc .vmem S1x1x2816 .f32) (harg8 : arg8.IsWhole) (arg9 : Memref sig .tc .vmem S256x2816 .bf16) (harg9 : arg9.IsWhole)
    (x0 : Vec F S256x2816 .fp8e4m3) (x1 : Vec F S256x1 .f32) (x2 : Vec F S1x2816x2816 .fp8e4m3) (x3 : Vec F S1x1x2816 .f32) (Y : Vec F S256x2816 .bf16) (xt0 : TbBuf0 (F := F) c tbM0_0) (xt1 : TbBuf0 (F := F) c tbM0_1) (xt2 : TbBuf0 (F := F) c tbM0_2) (xt3 : TbBuf0 (F := F) c tbM0_3)
    (hc : ¬ k0_cond1 i (wd3 c xt3) = 1#1) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (Y) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8_matmul i tbM0_0 htbM0_0 tbM0_1 htbM0_1 tbM0_2 htbM0_2 tbM0_3 htbM0_3 arg5 harg5 arg6 harg6 arg7 harg7 arg8 harg8 arg9 harg9) K := by
    intro E K
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    subst hf0 hf1 hf2 hf3 hf4
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      rfl
    isplitl [HT0]; · iexact HT0
    isplitl [HT1]; · iexact HT1
    isplitl [HT2]; · iexact HT2
    iexact HT3

end Cert.Kernel.Grouped

end
-- ==== Proof.K.Run.lean ====
/- The grouped product's run: the proof data with the output tile held to a relation, the body obligation, the launch,
   and the frame. -/
module

public import proofs.«01_k».proof.Proof.K.Body

@[expose] public section

-- membership in a rectangle of production extents (`View.cover_of_tiled`): the elaborator's structural look
-- recurses once per coordinate of the long axes
set_option maxRecDepth 16384

noncomputable section

namespace Cert.Kernel.Grouped

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data

The output tile is carried from one grid point to the next: consecutive work items of one row tile add their rows to
it.  Its contents are therefore held to a relation `Rl`, a parameter here; the frame takes the relation that always
holds, the value proof one that names the finished rows. -/

/-- The window held to a relation: the output's. -/
def marked : Fin 5 → Bool := fun w => w.val == 4

/-- The exact part of the proof data on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation -/

/-- The index into the table of group starts is inside it at every active point. -/
abbrev Chk : Prop := ∀ (c : Dev nD) (i : grid0.Coords), k0_chk1 i (wd3 (F := F) c (tbl m 3)) (wd0 (F := F) c i (tbl m 0))

/-- What the body leaves in the output tile at point `t`, having found `Y` there. -/
def bodyOut (hO : Ok m) (hK : Chk m) (c : Dev nD) (t : Fin (cfgM m hO).N) (Y : Vec F S256x2816 .bf16) : Vec F S256x2816 .bf16 :=
  if hc : k0_cond1 (grid0.coords t) (wd3 (F := F) c (tbl m 3)) = 1#1 then
    outv (wd2 c (wd0 c (grid0.coords t) (tbl m 0)) (hK c _ hc) (tbl m 2)) (wd1 c (grid0.coords t) (tbl m 1))
      (iblk m hO c 0 t) (iblk m hO c 1 t) (iblk m hO c 2 t) (iblk m hO c 3 t) Y
  else Y

/-- A relation on what each window holds after a point. -/
abbrev Rel (hO : Ok m) : Type :=
  (c : Dev nD) → (w : Fin (cfgM m hO).W) → Fin (cfgM m hO).N → (((cfgM m hO).win w).block.Idx → Elt F ((cfgM m hO).win w).elt) → Prop

/-- The relational proof data: the inputs exact, the output held to `Rl`. -/
abbrev rdat (hO : Ok m) (Rl : Rel m hO) (c : Dev nD) : Pipeline.RDat τ (Elt F) Unit ℕ (UR sig nD τ) ℕ (cfgM m hO) c :=
  (dats m hO 0 c).toRRel marked (Rl c)

/-- The relation is kept: whatever the body may find in the output tile, what it leaves there meets `Rl`. -/
abbrev Step (hO : Ok m) (hK : Chk m) (Rl : Rel m hO) : Prop :=
  ∀ (c : Dev nD) (t : Fin (cfgM m hO).N) (Y : Vec F S256x2816 .bf16), (rdat m hO Rl c).Finds 4 t Y → Rl c 4 t (bodyOut m hO hK c t Y)

def bodyPre (hO : Ok m) (Rl : Rel m hO) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ Y, ⌜(rdat m hO Rl c).Finds 4 t Y⌝ ∗ owns (c : Thread nD τ) (ms0_4 m hO t) fullShare Y))

def bodyPost (hO : Ok m) (Rl : Rel m hO) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ X, ⌜Rl c 4 t X⌝ ∗ owns (c : Thread nD τ) (ms0_4 m hO t) fullShare X))

/-- The body at any point, on the staging memrefs, in one form for both cases of its guard. -/
theorem body_any (hO : Ok m) (hK : Chk m) (c : Dev nD) (t : Fin (cfgM m hO).N) (Y : Vec F S256x2816 .bf16) (E : Set ℕ) (K : PUnit → sProp 𝕄) :
    iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare Y ∗ tbPt0 c tbM0_0 (tbl m 0) ∗ tbPt0 c tbM0_1 (tbl m 1) ∗ tbPt0 c tbM0_2 (tbl m 2) ∗ tbPt0 c tbM0_3 (tbl m 3)
        ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (bodyOut m hO hK c t Y) ∗ tbPt0 c tbM0_0 (tbl m 0) ∗ tbPt0 c tbM0_1 (tbl m 1) ∗ tbPt0 c tbM0_2 (tbl m 2) ∗ tbPt0 c tbM0_3 (tbl m 3)) -∗ K ⟨⟩))
      ⊢ wp frame (wpE (defs₀ (F := F)) Variants.none c none) E (bodyAt0 (adm m hO) t) K := by
  unfold bodyOut
  split
  case isTrue hc =>
    exact body_active c (grid0.coords t) _ _ _ _ _ _ _ _ _ _ (iblk m hO c 0 t) (iblk m hO c 1 t) (iblk m hO c 2 t) (iblk m hO c 3 t) Y (tbl m 0) (tbl m 1) (tbl m 2) (tbl m 3) hc (hK c _) E K
  case isFalse hc =>
    exact body_idle c (grid0.coords t) _ _ _ _ _ _ _ _ _ _ (iblk m hO c 0 t) (iblk m hO c 1 t) (iblk m hO c 2 t) (iblk m hO c 3 t) Y (tbl m 0) (tbl m 1) (tbl m 2) (tbl m 3) hc E K

theorem sound_body (hO : Ok m) (hK : Chk m) (Rl : Rel m hO) (hS : Step m hO hK Rl) (c : Dev nD) (t : Fin (cfgM m hO).N) :
    bodyPre m hO Rl c t ⊢ wp frame (wpE (defs₀ (F := F)) Variants.none c none) Set.univ (bodyAt0 (adm m hO) t) (fun _ => bodyPost m hO Rl c t) := by
  unfold bodyPre bodyPost
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%Y, %hY, H4⟩⟩
  iapply (body_any m hO hK c t Y Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists _; isplitr; swap; · iexact H4
  ipureintro; exact hS c t Y hY

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hK : Chk m) (Rl : Rel m hO) (hS : Step m hO hK Rl) (c : Dev nD) :
    Pipeline.BodyObligationRel (dats (F := F) m hO 0 c) (defs₀ (F := F)) Variants.none () Set.univ marked (Rl c) := fun t => by
  rw [bigSep_W0, bigSep_W0, defs₀_row m hO]
  exact triple_restated (sound_body m hO hK Rl hS c t) rfl .rfl fun _ => .rfl

/-! ## The run -/

-- the launch theorem's implicit arguments are found by unifying its conclusion with this one, which takes unfolding plain
-- definitions in a metavariable's type
set_option maxHeartbeats 4000000 in
set_option backward.isDefEq.respectTransparency.types false in
/-- THE LAUNCH: from any memory whose tables are admissible, every execution terminates with every counter at zero, the
    windows' arrays in the proof data's relation to their entry contents, every other buffer as the region found it. -/
theorem run_main (hO : Ok m) (hK : Chk m) (Rl : Rel m hO) (hS : Step m hO hK Rl) :
    θ_run defs (onTc (τ := τ) (main (F := F))) (s₀ m ρ) (fun r => (Pipeline.RDat.FramePost ((Pipeline.pin pcfgs fun _ => adm m hO) 0) (rdat m hO Rl) (V m)) r ∧ r.2.sem = fun _ => 0) :=
by
  refine Pipeline.RDat.θ_run_frameP (Q' := _) pcfgs (fun _ => adm m hO) (0 : Fin 1) launch0 defs₀ Variants.none (rdat m hO Rl) m ρ main
    (V := V m) ?hbody ?hshare ?howed ?hmain ?hA ?hpf ?hΦ
  case hbody => exact fun c => (body_obligation m hO hK Rl hS c).toRRel
  case hshare => exact fun c => (dats m hO 0 c).share_full fun _ => rfl
  case howed => exact fun _ _ => rfl
  case hmain => exact hmain m Variants.none
  case hA => exact A_eq m hO
  case hpf => exact V_pre m
  case hΦ => exact fun _ _ => rfl

/-- THE FRAME: under the tables' side conditions every execution terminates, the arguments end as they were, and every
    counter is at zero. -/
theorem frame (hO : Ok m) (hK : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (rdat m hO fun _ _ _ _ => True) (A_eq m hO) ((θ_run defs _ _).mono (fun _ h => h.1) (run_main m ρ hO hK _ fun _ _ _ _ => trivial)))
    ((θ_run defs _ _).mono (fun _ h => h.2) (run_main m ρ hO hK (fun _ _ _ _ => True) fun _ _ _ _ => trivial))

end Cert.Kernel.Grouped

end
-- ==== Proof.Sizes.lean ====
module

public import proofs.«01_k».proof.Proof.Words
public import proofs.«01_k».proof.Pre_sizes_fit

/-!
# The precondition

Group sizes fit when none is negative and they add up to the `12288` rows.
-/

@[expose] public section

namespace Cert.Grouped

open Idealize.ShloMosaic Idealize.ShloMosaic.Routing Idealize.ShloMosaic.ValueIdx Idealize.ShloMosaic.WordCmp
open Cert.Grouped.Plan

/-- The group sizes as naturals. -/
def nat (x : IVec (shape1 32) 32) (k : ℕ) : ℕ := if h : k < 32 then (x (ix1 ⟨k, h⟩)).toNat else 0

theorem nat_spec (x : IVec (shape1 32) 32) (i : Fin 32) : x (ix1 i) = BitVec.ofNat 32 (nat x i.val) := by
  unfold nat
  rw [dif_pos i.isLt, BitVec.ofNat_toNat, BitVec.setWidth_eq]

/-- The sizes fit: together they are all the rows. -/
def Fits (x : IVec (shape1 32) 32) : Prop := E (nat x) 32 = 12288

/-- The precondition, all ones, says that the sizes fit. -/
theorem fits_of_pre [Cert.Pre_sizes_fit.Facts] {F : FTy → Type} [FloatOps F] (a0 : FVec F Cert.Pre_sizes_fit.S12288x2816 .fp8e4m3)
    (a1 : FVec F Cert.Pre_sizes_fit.S12288x1 .f32) (x : IVec (shape1 32) 32) (a3 : FVec F Cert.Pre_sizes_fit.S32x2816x2816 .fp8e4m3)
    (a4 : FVec F Cert.Pre_sizes_fit.S32x2816 .f32) (h : Cert.Pre_sizes_fit.fn (F := F) a0 a1 x a3 a4 = fun _ => 1#1) : Fits x := by
  have andi_one (p q : BitVec 1) : IntOp.andi p q = 1#1 → p = 1#1 ∧ q = 1#1 := by revert p q; decide
  have key : ∀ i : Fin 32, (x (ix1 i)).toNat ≤ 12288
      ∧ Host.reduce IntOp.addi x (constantI shape0 32 0#32) Cert.Pre_sizes_fit.Facts.reducesTo_S32_S_d0 Cert.Pre_sizes_fit.Facts.h_S_ ix0 = 12288#32 := by
    intro i
    have e := congrFun h (ix1 i)
    unfold Cert.Pre_sizes_fit.fn at e
    obtain ⟨e12, e3⟩ := andi_one _ _ e
    obtain ⟨e1, e2⟩ := andi_one _ _ e12
    have h1 : IntOp.cmpi .sge (x (ix1 i)) 0#32 = 1#1 := e1
    have h2 : IntOp.cmpi .sle (x (ix1 i)) 12288#32 = 1#1 := e2
    refine ⟨?_, ?_⟩
    · unfold IntOp.cmpi at h1 h2
      have ofBool_one : ∀ b : Bool, BitVec.ofBool b = 1#1 → b = true := by decide
      have g1 := ofBool_one _ h1
      have g2 := ofBool_one _ h2
      simp only [BitVec.sle, decide_eq_true_eq, BitVec.toInt, BitVec.toNat_ofNat] at g1 g2
      omega
    · rw [bc0] at e3
      exact StableHlo.Predicate.cmpi_eq_iff.1 e3
  have hsum := (key 0).2
  rw [reduce_sum x (nat x) (nat_spec x)] at hsum
  have hle : ∀ k, k ≤ 32 → E (nat x) k ≤ k * 12288 := by
    intro k
    induction k with
    | zero => intro _; rw [E_zero]
    | succ k ih =>
      intro hk
      have h1 := ih (by omega)
      have h2 := (key ⟨k, hk⟩).1
      have h3 : nat x k = (x (ix1 ⟨k, hk⟩)).toNat := dif_pos hk
      rw [E_succ]; omega
  have h32 := hle 32 le_rfl
  have := congrArg BitVec.toNat hsum
  rw [BitVec.toNat_ofNat, BitVec.toNat_ofNat] at this
  unfold Fits
  change E (nat x) 32 % _ = _ at this
  omega

end Cert.Grouped
-- ==== Proof.K.Facts.lean ====
/- What the launch needs of its tables, for group sizes that fit: every word read is the schedule's number
   (Proof/Plan.lean), so every block lies inside its array (`ok_of`) and every group inside the table of starts (`chk_of`). -/
module

public import proofs.«01_k».proof.Proof.K.Tables
public import proofs.«01_k».proof.Proof.K.Run
public import proofs.«01_k».proof.Proof.Sizes

@[expose] public section

set_option maxRecDepth 16384

namespace Cert.Kernel.Grouped

open Cert.Kernel.Gen
open Idealize.ShloMosaic Idealize.ShloMosaic.TcCoe Idealize.ShloMosaic.ValueIdx
open Cert.Grouped Cert.Grouped.Plan

variable {F : FTy → Type} [FloatOps F] (m : (ℓ : Loc nD τ sig) → Buf (Elt F) ℓ)

/-- The group sizes as naturals. -/
abbrev sz : ℕ → ℕ := nat (sizes m 0)

/-- A grid point's number. -/
abbrev num (i : grid0.Coords) : Fin 79 := i 0

variable (hf : Fits (sizes m 0))
include hf

theorem tbl0 (k : Fin 79) : (tbl m 0 : IVec (Routing.shape1 79) 32) (ix1 k) = BitVec.ofNat 32 (g (sz m) k.val) :=
  (congrFun (V_groups m 0) _).trans (Words.groups_ap _ (nat_spec _) hf k)
theorem tbl1 (k : Fin 79) : (tbl m 1 : IVec (Routing.shape1 79) 32) (ix1 k) = BitVec.ofNat 32 (t (sz m) k.val) :=
  (congrFun (V_rowTiles m 0) _).trans (Words.rowTiles_ap _ (nat_spec _) hf k)
theorem tbl2 (k : Fin 32) : (tbl m 2 : IVec (Routing.shape1 32) 32) (ix1 k) = BitVec.ofNat 32 (E (sz m) k.val) :=
  (congrFun (V_starts m 0) _).trans (Words.starts_ap _ (nat_spec _) hf k)
theorem tbl3 : (tbl m 3 : IVec (Routing.shape1 1) 32) (ix1 (0 : Fin 1)) = BitVec.ofNat 32 (total (sz m)) :=
  (congrFun (V_all m 0) _).trans (Words.all1_ap _ (nat_spec _) hf)

theorem num_word (i : grid0.Coords) : (BitVec.ofNat 32 (i 0).val).toNat = (num i).val := by
  have h : (i 0).val < 79 := (num i).isLt
  rw [BitVec.toNat_ofNat, Nat.mod_eq_of_lt (by omega)]

theorem wd0_eq (c : Dev nD) (i : grid0.Coords) : wd0 c i (tbl m 0) = BitVec.ofNat 32 (g (sz m) (num i).val) := by
  refine Eq.trans ?_ (tbl0 m hf (num i))
  show (tbl m 0 : IVec (Routing.shape1 79) 32) _ = _
  refine congrArg (tbl m 0 : IVec (Routing.shape1 79) 32) (funext fun a => Fin.ext ?_)
  match a with
  | ⟨0, _⟩ =>
    have := num_word m hf i
    show (BitVec.ofNat 32 (i 0).val).toNat + 0 * 1 = _
    omega

theorem wd1_eq (c : Dev nD) (i : grid0.Coords) : wd1 c i (tbl m 1) = BitVec.ofNat 32 (t (sz m) (num i).val) := by
  refine Eq.trans ?_ (tbl1 m hf (num i))
  show (tbl m 1 : IVec (Routing.shape1 79) 32) _ = _
  refine congrArg (tbl m 1 : IVec (Routing.shape1 79) 32) (funext fun a => Fin.ext ?_)
  match a with
  | ⟨0, _⟩ =>
    have := num_word m hf i
    show (BitVec.ofNat 32 (i 0).val).toNat + 0 * 1 = _
    omega

theorem wd3_eq (c : Dev nD) : wd3 c (tbl m 3) = BitVec.ofNat 32 (total (sz m)) := by
  refine Eq.trans ?_ (tbl3 m hf)
  show (tbl m 3 : IVec (Routing.shape1 1) 32) _ = _
  exact congrArg (tbl m 3 : IVec (Routing.shape1 1) 32) (funext fun a => by
    match a with
    | ⟨0, _⟩ => rfl)

theorem wd2_eq (c : Dev nD) (w : BitVec 32) (k : Fin 32) (hw : w = BitVec.ofNat 32 k.val) (h : ∀ a, k0_off3 w a + S1.size a ≤ S32.size a) :
    wd2 c w h (tbl m 2) = BitVec.ofNat 32 (E (sz m) k.val) := by
  refine Eq.trans ?_ (tbl2 m hf k)
  show (tbl m 2 : IVec (Routing.shape1 32) 32) _ = _
  refine congrArg (tbl m 2 : IVec (Routing.shape1 32) 32) (funext fun a => Fin.ext ?_)
  match a with
  | ⟨0, _⟩ =>
    subst hw
    have : (BitVec.ofNat 32 k.val).toNat = k.val := by rw [BitVec.toNat_ofNat, Nat.mod_eq_of_lt (by have := k.isLt; omega)]
    show (BitVec.ofNat 32 k.val).toNat + 0 * 1 = _
    omega

/-- A step works exactly while it stands at a pair. -/
theorem cond_iff (c : Dev nD) (i : grid0.Coords) : k0_cond1 i (wd3 c (tbl m 3)) = 1#1 ↔ (num i).val < total (sz m) := by
  have ht := total_bounds (sz m) hf
  have hi := (num i).isLt
  rw [wd3_eq m hf]
  have key : ∀ b : Bool, Scalar.cmpi .ne (Scalar.extui (BitVec.ofBool b) : BitVec 32) 0#32 = 1#1 ↔ b = true := by decide
  show Scalar.cmpi .ne (Scalar.extui (Scalar.cmpi .slt (BitVec.ofNat 32 (num i).val) (BitVec.ofNat 32 (total (sz m)))) : BitVec 32) 0#32 = 1#1 ↔ _
  rw [show Scalar.cmpi .slt (BitVec.ofNat 32 (num i).val) (BitVec.ofNat 32 (total (sz m))) = BitVec.ofBool (decide ((num i).val < total (sz m)))
    from WordCmp.cmpi_slt_ofNat (w := 32) (by omega) (by omega), key, decide_eq_true_eq]

/-- Every group is inside the table of starts. -/
theorem chk_of : Chk m := by
  intro c i hc a
  rw [wd0_eq m hf]
  have hg := g_lt (sz m) hf (num i).val
  have : (BitVec.ofNat 32 (g (sz m) (num i).val)).toNat = g (sz m) (num i).val := by rw [BitVec.toNat_ofNat, Nat.mod_eq_of_lt (by omega)]
  match a with
  | ⟨0, _⟩ =>
    show (BitVec.ofNat 32 (g (sz m) (num i).val)).toNat + 1 ≤ 32
    omega

/-- The row tile an index map reads. -/
theorem at1 (i : grid0.Coords) :
    ((tbl m).at 1 (Rect.unit (s := S79) ![(Scalar.indexCast (BitVec.ofNat 32 (i 0).val) : Index).toNat] S1.size (k0_off1_inb i)) numel1_S1 : BitVec 32).toNat
      = t (sz m) (num i).val := by
  have h : ((tbl m).at 1 (Rect.unit (s := S79) ![(Scalar.indexCast (BitVec.ofNat 32 (i 0).val) : Index).toNat] S1.size (k0_off1_inb i)) numel1_S1 : BitVec 32)
      = wd1 0 i (tbl m 1) := rfl
  rw [h, wd1_eq m hf, BitVec.toNat_ofNat, Nat.mod_eq_of_lt (by have := t_lt (sz m) hf (num i).val; omega)]

/-- The group an index map reads. -/
theorem at0 (i : grid0.Coords) :
    ((tbl m).at 0 (Rect.unit (s := S79) ![(Scalar.indexCast (BitVec.ofNat 32 (i 0).val) : Index).toNat] S1.size (k0_off1_inb i)) numel1_S1 : BitVec 32).toNat
      = g (sz m) (num i).val := by
  have h : ((tbl m).at 0 (Rect.unit (s := S79) ![(Scalar.indexCast (BitVec.ofNat 32 (i 0).val) : Index).toNat] S1.size (k0_off1_inb i)) numel1_S1 : BitVec 32)
      = wd0 0 i (tbl m 0) := rfl
  rw [h, wd0_eq m hf, BitVec.toNat_ofNat, Nat.mod_eq_of_lt (by have := g_lt (sz m) hf (num i).val; omega)]

/-! ## The blocks -/

theorem map0 (i : grid0.Coords) : cc0_transform_0 k0_off1_inb numel1_S1 (tbl m) i = ![t (sz m) (num i).val, 0] := by
  show ![_, _] = _; rw [at1 m hf]; rfl
theorem map1 (i : grid0.Coords) : cc0_transform_1 k0_off1_inb numel1_S1 (tbl m) i = ![t (sz m) (num i).val, 0] := by
  show ![_, _] = _; rw [at1 m hf]; rfl
theorem map2 (i : grid0.Coords) : cc0_transform_2 k0_off1_inb numel1_S1 (tbl m) i = ![g (sz m) (num i).val, 0, 0] := by
  show ![_, _, _] = _; rw [at0 m hf]; rfl
theorem map3 (i : grid0.Coords) : cc0_transform_3 k0_off1_inb numel1_S1 (tbl m) i = ![g (sz m) (num i).val, 0, 0] := by
  show ![_, _, _] = _; rw [at0 m hf]; rfl
theorem map4 (i : grid0.Coords) : cc0_transform_4 k0_off1_inb numel1_S1 (tbl m) i = ![t (sz m) (num i).val, 0] := by
  show ![_, _] = _; rw [at1 m hf]; rfl

/-- Every block of every window lies inside its array, and is whole words of it. -/
theorem ok_of : Ok m := by
  have ht := fun i : grid0.Coords => t_lt (sz m) hf (num i).val
  have hg := fun i : grid0.Coords => g_lt (sz m) hf (num i).val
  refine ⟨fun i => ⟨?_, .inr (.inl ?_)⟩, fun i => ⟨?_, .inl rfl⟩, fun i => ⟨?_, .inr (.inr ?_)⟩, fun i => ⟨?_, .inl rfl⟩, fun i => ⟨?_, .inr (.inl ?_)⟩⟩
  · rw [map0 m hf]; intro a; have := ht i
    match a with
    | ⟨0, _⟩ => show (t (sz m) (num i).val + 1) * 256 ≤ 12288; omega
    | ⟨1, _⟩ => show (0 + 1) * 2816 ≤ 2816; omega
  · refine .inr ⟨le_refl 2, rfl, .inl ⟨?_, show 4 ∣ 256 by decide⟩⟩
    show 4 ∣ cc0_transform_0 k0_off1_inb numel1_S1 (tbl m) i 0 * 256
    omega
  · rw [map1 m hf]; intro a; have := ht i
    match a with
    | ⟨0, _⟩ => show (t (sz m) (num i).val + 1) * 256 ≤ 12288; omega
    | ⟨1, _⟩ => show (0 + 1) * 1 ≤ 1; omega
  · rw [map2 m hf]; intro a; have := hg i
    match a with
    | ⟨0, _⟩ => show (g (sz m) (num i).val + 1) * 1 ≤ 32; omega
    | ⟨1, _⟩ => show (0 + 1) * 2816 ≤ 2816; omega
    | ⟨2, _⟩ => show (0 + 1) * 2816 ≤ 2816; omega
  · refine ⟨show 2 ≤ 3 by omega, rfl, ?_, rfl⟩
    show cc0_transform_2 k0_off1_inb numel1_S1 (tbl m) i 1 * 2816 = 0
    rw [map2 m hf]; rfl
  · rw [map3 m hf]; intro a; have := hg i
    match a with
    | ⟨0, _⟩ => show (g (sz m) (num i).val + 1) * 1 ≤ 32; omega
    | ⟨1, _⟩ => show (0 + 1) * 1 ≤ 1; omega
    | ⟨2, _⟩ => show (0 + 1) * 2816 ≤ 2816; omega
  · rw [map4 m hf]; intro a; have := ht i
    match a with
    | ⟨0, _⟩ => show (t (sz m) (num i).val + 1) * 256 ≤ 12288; omega
    | ⟨1, _⟩ => show (0 + 1) * 2816 ≤ 2816; omega
  · refine .inr ⟨le_refl 2, rfl, .inl ⟨?_, show 2 ∣ 256 by decide⟩⟩
    show 2 ∣ cc0_transform_4 k0_off1_inb numel1_S1 (tbl m) i 0 * 256
    omega

end Cert.Kernel.Grouped
-- ==== Proof.KI.Setup.lean ====
/- The grouped product's launch, up to the body: what every buffer holds when the pipelined region is entered
   (`V`), the four tables the region reads ahead of the windows (`tbl`), the pipeline pinned at them (`cfgM`), and
   the block each input window's staging buffer holds (`iblk`). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The host operations before the region, in order. -/
abbrev hostAll : List (List (HloOp τ sig (Elt F))) := [hostOps0, hostOps0_1, hostOps0_2, hostOps0_3, hostOps0_4, hostOps0_5, hostOps0_6, hostOps0_7, hostOps0_8, hostOps0_9, hostOps0_10]

/-- Core `c`'s TensorCore buffers when the region is entered: the launch memory after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 1600000 in
/-- @main up to the region: the host operations in their stretches. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; the tables' arithmetic proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S79 .i32 := Memref.whole main_v20
abbrev htbM0_0 : tbM0_0.IsWhole := Memref.isWhole_whole _
abbrev tbM0_1 : Memref sig .tc .smem S79 .i32 := Memref.whole main_v36
abbrev htbM0_1 : tbM0_1.IsWhole := Memref.isWhole_whole _
abbrev tbM0_2 : Memref sig .tc .smem S32 .i32 := Memref.whole main_v1
abbrev htbM0_2 : tbM0_2.IsWhole := Memref.isWhole_whole _
abbrev tbM0_3 : Memref sig .tc .smem S1 .i32 := Memref.whole main_v37
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 2 rfl).trans ((hA c 2).trans (V_main_arg3 m c)),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x2816 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2816 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_grouped_fp8_matmul (grid0.coords t) (Memref.whole main_v20) (Memref.isWhole_whole _) (Memref.whole main_v36) (Memref.isWhole_whole _) (Memref.whole main_v1) (Memref.isWhole_whole _) (Memref.whole main_v37) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.KernelIdeal.Grouped

end
-- ==== Proof.KI.Tables.lean ====
/- What the four tables hold when the region is entered: the words of Proof/Words.lean, of the group sizes as launched. -/
module

public import proofs.«01_k».proof.Proof.KI.Setup
public import proofs.«01_k».proof.Proof.Words
public import Idealize.ShloMosaic.Lib.StableHlo.RunRead

@[expose] public section

set_option maxRecDepth 16384

namespace Cert.KernelIdeal.Grouped

open Cert.KernelIdeal.Gen
open Idealize.ShloMosaic Idealize.ShloMosaic.TcCoe
open Cert.Grouped

variable {F : FTy → Type} [FloatOps F] (m : (ℓ : Loc nD τ sig) → Buf (Elt F) ℓ)

/-- The group sizes as launched. -/
abbrev sizes (c : Dev nD) : IVec (Routing.shape1 32) 32 := m ((c : Thread nD τ).loc main_arg2)

theorem V_starts (c : Dev nD) : V m c main_v1 = Words.starts (sizes m c) := by
  unfold V
  after_reads_simp
  simp -implicitDefEqProofs only [StableHlo.TRef.ofBuf_toBuf]
  simp -implicitDefEqProofs only [StableHlo.TRef.ofBuf, StableHlo.TRef.toBuf, cast_eq, id_eq]

  unfold Words.starts Words.cum
  rfl

theorem V_all (c : Dev nD) : V m c main_v37 = Words.all1 (sizes m c) := by
  unfold V
  after_reads_simp
  simp -implicitDefEqProofs only [StableHlo.TRef.ofBuf_toBuf]
  simp -implicitDefEqProofs only [StableHlo.TRef.ofBuf, StableHlo.TRef.toBuf, cast_eq, id_eq]

  unfold Words.all1 Words.all0 Words.pairs Words.tiles Words.tileLast Words.tileFirst Words.starts Words.cum Words.c32 Routing.pyDiv
  rfl

set_option maxHeartbeats 1600000 in
theorem V_groups (c : Dev nD) : V m c main_v20 = Words.groups (sizes m c) := by
  unfold V
  after_reads_simp
  simp -implicitDefEqProofs only [StableHlo.TRef.ofBuf_toBuf]
  simp -implicitDefEqProofs only [StableHlo.TRef.ofBuf, StableHlo.TRef.toBuf, cast_eq, id_eq]
  unfold Words.groups Words.place Words.all0 Words.pairs Words.tiles Words.tileLast Words.tileFirst Words.starts Words.cum Words.c32 Routing.pyDiv
  rfl

set_option maxHeartbeats 1600000 in
theorem V_rowTiles (c : Dev nD) : V m c main_v36 = Words.rowTiles (sizes m c) := by
  unfold V
  after_reads_simp
  simp -implicitDefEqProofs only [StableHlo.TRef.ofBuf_toBuf]
  simp -implicitDefEqProofs only [StableHlo.TRef.ofBuf, StableHlo.TRef.toBuf, cast_eq, id_eq]
  unfold Words.rowTiles Words.wrap Words.c79 Words.groups Words.before Words.place Words.all0 Words.pairs Words.tiles Words.tileLast Words.tileFirst Words.starts Words.cum Words.c32 Routing.pyDiv
  rfl

/-- The weight scales, each expert's row as a block of its own. -/
theorem V_scales (c : Dev nD) : V m c main_v38
    = shapeCast S32x1x2816 (m ((c : Thread nD τ).loc main_arg4) : (⟨S32x2816, .f32⟩ : BufTy).Contents (Elt F)) shapeCasts_S32x2816_S32x1x2816 := by
  unfold V
  after_reads_simp
  rfl

end Cert.KernelIdeal.Grouped
-- ==== Proof.KI.Body.lean ====
/- The kernel's body at one grid point: the words it reads, what it leaves in the output tile (`outv`), and its
   triple in the two cases of its guard. -/
module

public import proofs.«01_k».proof.Proof.KI.Setup

@[expose] public section

-- membership in a rectangle of production extents (`View.cover_of_tiled`): the elaborator's structural look
-- recurses once per coordinate of the long axes
set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words of the tables a grid point reads -/

/-- The number of work items: the one word of table 3. -/
abbrev wd3 (c : Dev nD) (xt3 : TbBuf0 (F := F) c tbM0_3) : BitVec 32 :=
  View.readAt (Elt F) tbM0_3.view (Rect.unit (s := S1) ![0] S1.size inb_S1_S1_0).toLoadRect xt3 (Shape.Idx.first (numel1_S1.symm ▸ Nat.one_pos))
/-- The group of work item `i`: a word of table 0. -/
abbrev wd0 (c : Dev nD) (i : grid0.Coords) (xt0 : TbBuf0 (F := F) c tbM0_0) : BitVec 32 :=
  View.readAt (Elt F) tbM0_0.view (Rect.unit (s := S79) (k0_off2 i) S1.size (k0_off2_inb i)).toLoadRect xt0 (Shape.Idx.first (numel1_S1.symm ▸ Nat.one_pos))
/-- The row tile of work item `i`: a word of table 1. -/
abbrev wd1 (c : Dev nD) (i : grid0.Coords) (xt1 : TbBuf0 (F := F) c tbM0_1) : BitVec 32 :=
  View.readAt (Elt F) tbM0_1.view (Rect.unit (s := S79) (k0_off4 i) S1.size (k0_off4_inb i)).toLoadRect xt1 (Shape.Idx.first (numel1_S1.symm ▸ Nat.one_pos))
/-- The first row of group `w0`: a word of table 2, at an index inside it. -/
abbrev wd2 (c : Dev nD) (w0 : BitVec 32) (h : ∀ a, k0_off3 w0 a + S1.size a ≤ S32.size a) (xt2 : TbBuf0 (F := F) c tbM0_2) : BitVec 32 :=
  View.readAt (Elt F) tbM0_2.view (Rect.unit (s := S32) (k0_off3 w0) S1.size h).toLoadRect xt2 (Shape.Idx.first (numel1_S1.symm ▸ Nat.one_pos))

/-! ## What the body leaves in the output tile -/

abbrev xR : Rect S256x2816 := Rect.unit (s := S256x2816) ![0, 0] S256x2816.size inb_S256x2816_S256x2816_0_0
abbrev xsR : Rect S256x1 := Rect.unit (s := S256x1) ![0, 0] S256x1.size inb_S256x1_S256x1_0_0
abbrev oR0 : Rect S256x2816 := Rect.unit (s := S256x2816) ![0, 0] S256x256.size inb_S256x2816_S256x256_0_0
abbrev wR0 : Rect S1x2816x2816 := Rect.unit (s := S1x2816x2816) ![0, 0, 0] S1x2816x256.size inb_S1x2816x2816_S1x2816x256_0_0_0
abbrev sR0 : Rect S1x1x2816 := Rect.unit (s := S1x1x2816) ![0, 0, 0] S1x1x256.size inb_S1x1x2816_S1x1x256_0_0_0
abbrev oR1 : Rect S256x2816 := Rect.unit (s := S256x2816) ![0, 256] S256x256.size inb_S256x2816_S256x256_0_256
abbrev wR1 : Rect S1x2816x2816 := Rect.unit (s := S1x2816x2816) ![0, 0, 256] S1x2816x256.size inb_S1x2816x2816_S1x2816x256_0_0_256
abbrev sR1 : Rect S1x1x2816 := Rect.unit (s := S1x1x2816) ![0, 0, 256] S1x1x256.size inb_S1x1x2816_S1x1x256_0_0_256
abbrev oR2 : Rect S256x2816 := Rect.unit (s := S256x2816) ![0, 512] S256x256.size inb_S256x2816_S256x256_0_512
abbrev wR2 : Rect S1x2816x2816 := Rect.unit (s := S1x2816x2816) ![0, 0, 512] S1x2816x256.size inb_S1x2816x2816_S1x2816x256_0_0_512
abbrev sR2 : Rect S1x1x2816 := Rect.unit (s := S1x1x2816) ![0, 0, 512] S1x1x256.size inb_S1x1x2816_S1x1x256_0_0_512
abbrev oR3 : Rect S256x2816 := Rect.unit (s := S256x2816) ![0, 768] S256x256.size inb_S256x2816_S256x256_0_768
abbrev wR3 : Rect S1x2816x2816 := Rect.unit (s := S1x2816x2816) ![0, 0, 768] S1x2816x256.size inb_S1x2816x2816_S1x2816x256_0_0_768
abbrev sR3 : Rect S1x1x2816 := Rect.unit (s := S1x1x2816) ![0, 0, 768] S1x1x256.size inb_S1x1x2816_S1x1x256_0_0_768
abbrev oR4 : Rect S256x2816 := Rect.unit (s := S256x2816) ![0, 1024] S256x256.size inb_S256x2816_S256x256_0_1024
abbrev wR4 : Rect S1x2816x2816 := Rect.unit (s := S1x2816x2816) ![0, 0, 1024] S1x2816x256.size inb_S1x2816x2816_S1x2816x256_0_0_1024
abbrev sR4 : Rect S1x1x2816 := Rect.unit (s := S1x1x2816) ![0, 0, 1024] S1x1x256.size inb_S1x1x2816_S1x1x256_0_0_1024
abbrev oR5 : Rect S256x2816 := Rect.unit (s := S256x2816) ![0, 1280] S256x256.size inb_S256x2816_S256x256_0_1280
abbrev wR5 : Rect S1x2816x2816 := Rect.unit (s := S1x2816x2816) ![0, 0, 1280] S1x2816x256.size inb_S1x2816x2816_S1x2816x256_0_0_1280
abbrev sR5 : Rect S1x1x2816 := Rect.unit (s := S1x1x2816) ![0, 0, 1280] S1x1x256.size inb_S1x1x2816_S1x1x256_0_0_1280
abbrev oR6 : Rect S256x2816 := Rect.unit (s := S256x2816) ![0, 1536] S256x256.size inb_S256x2816_S256x256_0_1536
abbrev wR6 : Rect S1x2816x2816 := Rect.unit (s := S1x2816x2816) ![0, 0, 1536] S1x2816x256.size inb_S1x2816x2816_S1x2816x256_0_0_1536
abbrev sR6 : Rect S1x1x2816 := Rect.unit (s := S1x1x2816) ![0, 0, 1536] S1x1x256.size inb_S1x1x2816_S1x1x256_0_0_1536
abbrev oR7 : Rect S256x2816 := Rect.unit (s := S256x2816) ![0, 1792] S256x256.size inb_S256x2816_S256x256_0_1792
abbrev wR7 : Rect S1x2816x2816 := Rect.unit (s := S1x2816x2816) ![0, 0, 1792] S1x2816x256.size inb_S1x2816x2816_S1x2816x256_0_0_1792
abbrev sR7 : Rect S1x1x2816 := Rect.unit (s := S1x1x2816) ![0, 0, 1792] S1x1x256.size inb_S1x1x2816_S1x1x256_0_0_1792
abbrev oR8 : Rect S256x2816 := Rect.unit (s := S256x2816) ![0, 2048] S256x256.size inb_S256x2816_S256x256_0_2048
abbrev wR8 : Rect S1x2816x2816 := Rect.unit (s := S1x2816x2816) ![0, 0, 2048] S1x2816x256.size inb_S1x2816x2816_S1x2816x256_0_0_2048
abbrev sR8 : Rect S1x1x2816 := Rect.unit (s := S1x1x2816) ![0, 0, 2048] S1x1x256.size inb_S1x1x2816_S1x1x256_0_0_2048
abbrev oR9 : Rect S256x2816 := Rect.unit (s := S256x2816) ![0, 2304] S256x256.size inb_S256x2816_S256x256_0_2304
abbrev wR9 : Rect S1x2816x2816 := Rect.unit (s := S1x2816x2816) ![0, 0, 2304] S1x2816x256.size inb_S1x2816x2816_S1x2816x256_0_0_2304
abbrev sR9 : Rect S1x1x2816 := Rect.unit (s := S1x1x2816) ![0, 0, 2304] S1x1x256.size inb_S1x1x2816_S1x1x256_0_0_2304
abbrev oR10 : Rect S256x2816 := Rect.unit (s := S256x2816) ![0, 2560] S256x256.size inb_S256x2816_S256x256_0_2560
abbrev wR10 : Rect S1x2816x2816 := Rect.unit (s := S1x2816x2816) ![0, 0, 2560] S1x2816x256.size inb_S1x2816x2816_S1x2816x256_0_0_2560
abbrev sR10 : Rect S1x1x2816 := Rect.unit (s := S1x1x2816) ![0, 0, 2560] S1x1x256.size inb_S1x1x2816_S1x1x256_0_0_2560

/-- One column tile: where `keep` is set the old contents `o`, elsewhere the scaled product of the row tile with a
    256-column slice of the group's matrix. -/
abbrev tileOut (keep : IVec S256x1 1) (x0 : Vec F S256x2816 .fp8e4m3) (x1 : Vec F S256x1 .f32) (w : Vec F S1x2816x256 .fp8e4m3) (s : Vec F S1x1x256 .f32) (o : Vec F S256x256 .bf16) : Vec F S256x256 .bf16 :=
  k0_pay6 keep x0 x1 w s o

/-- The output tile after an active grid point that found `Y` there: eleven column tiles, the last written first.
    `v7` is the first row of the group, `v9` the row tile. -/
def outv (v7 v9 : BitVec 32) (x0 : Vec F S256x2816 .fp8e4m3) (x1 : Vec F S256x1 .f32) (x2 : Vec F S1x2816x2816 .fp8e4m3) (x3 : Vec F S1x1x2816 .f32) (Y : Vec F S256x2816 .bf16) : Vec F S256x2816 .bf16 :=
  View.canon [⟨oR10, tileOut (k0_pay2 (F := F) v7 v9) (View.ld x0 xR) (View.ld x1 xsR) (View.ld x2 wR10) (View.ld x3 sR10) (View.ld Y oR10)⟩,
    ⟨oR9, tileOut (k0_pay2 (F := F) v7 v9) (View.ld x0 xR) (View.ld x1 xsR) (View.ld x2 wR9) (View.ld x3 sR9) (View.ld Y oR9)⟩,
    ⟨oR8, tileOut (k0_pay2 (F := F) v7 v9) (View.ld x0 xR) (View.ld x1 xsR) (View.ld x2 wR8) (View.ld x3 sR8) (View.ld Y oR8)⟩,
    ⟨oR7, tileOut (k0_pay2 (F := F) v7 v9) (View.ld x0 xR) (View.ld x1 xsR) (View.ld x2 wR7) (View.ld x3 sR7) (View.ld Y oR7)⟩,
    ⟨oR6, tileOut (k0_pay2 (F := F) v7 v9) (View.ld x0 xR) (View.ld x1 xsR) (View.ld x2 wR6) (View.ld x3 sR6) (View.ld Y oR6)⟩,
    ⟨oR5, tileOut (k0_pay2 (F := F) v7 v9) (View.ld x0 xR) (View.ld x1 xsR) (View.ld x2 wR5) (View.ld x3 sR5) (View.ld Y oR5)⟩,
    ⟨oR4, tileOut (k0_pay2 (F := F) v7 v9) (View.ld x0 xR) (View.ld x1 xsR) (View.ld x2 wR4) (View.ld x3 sR4) (View.ld Y oR4)⟩,
    ⟨oR3, tileOut (k0_pay2 (F := F) v7 v9) (View.ld x0 xR) (View.ld x1 xsR) (View.ld x2 wR3) (View.ld x3 sR3) (View.ld Y oR3)⟩,
    ⟨oR2, tileOut (k0_pay2 (F := F) v7 v9) (View.ld x0 xR) (View.ld x1 xsR) (View.ld x2 wR2) (View.ld x3 sR2) (View.ld Y oR2)⟩,
    ⟨oR1, tileOut (k0_pay2 (F := F) v7 v9) (View.ld x0 xR) (View.ld x1 xsR) (View.ld x2 wR1) (View.ld x3 sR1) (View.ld Y oR1)⟩,
    ⟨oR0, tileOut (k0_pay2 (F := F) v7 v9) (View.ld x0 xR) (View.ld x1 xsR) (View.ld x2 wR0) (View.ld x3 sR0) (View.ld Y oR0)⟩]

/-- The eleven column tiles cover the output tile. -/
theorem coverOut (p0 p1 p2 p3 p4 p5 p6 p7 p8 p9 p10 : Vec F S256x256 .bf16) (y : S256x2816.Idx) :
    ∃ pc ∈ ([⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S256x2816 .bf16)), y ∈ pc.1.set :=
  View.cover_of_tiled [⟨oR10, p10⟩, ⟨oR9, p9⟩, ⟨oR8, p8⟩, ⟨oR7, p7⟩, ⟨oR6, p6⟩, ⟨oR5, p5⟩, ⟨oR4, p4⟩, ⟨oR3, p3⟩, ⟨oR2, p2⟩, ⟨oR1, p1⟩, ⟨oR0, p0⟩] S256x256.size (by rfl) y

/-! ## The body's triple -/

set_option maxHeartbeats 4000000 in
/-- At an ACTIVE point (its number below the number of work items) the body leaves `outv` in the output tile. -/
theorem body_active (c : Dev nD) (i : grid0.Coords) (arg5 : Memref sig .tc .vmem S256x2816 .fp8e4m3) (harg5 : arg5.IsWhole) (arg6 : Memref sig .tc .vmem S256x1 .f32) (harg6 : arg6.IsWhole) (arg7 : Memref sig .tc .vmem S1x2816x2816 .fp8e4m3) (harg7 : arg7.IsWhole) (arg8 : Memref sig .tc .vmem S1x1x2816 .f32) (harg8 : arg8.IsWhole) (arg9 : Memref sig .tc .vmem S256x2816 .bf16) (harg9 : arg9.IsWhole)
    (x0 : Vec F S256x2816 .fp8e4m3) (x1 : Vec F S256x1 .f32) (x2 : Vec F S1x2816x2816 .fp8e4m3) (x3 : Vec F S1x1x2816 .f32) (Y : Vec F S256x2816 .bf16) (xt0 : TbBuf0 (F := F) c tbM0_0) (xt1 : TbBuf0 (F := F) c tbM0_1) (xt2 : TbBuf0 (F := F) c tbM0_2) (xt3 : TbBuf0 (F := F) c tbM0_3)
    (hc : k0_cond1 i (wd3 c xt3) = 1#1) (hk : k0_chk1 i (wd3 c xt3) (wd0 c i xt0)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (outv (wd2 c (wd0 c i xt0) (hk hc) xt2) (wd1 c i xt1) x0 x1 x2 x3 Y) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8_matmul i tbM0_0 htbM0_0 tbM0_1 htbM0_1 tbM0_2 htbM0_2 tbM0_3 htbM0_3 arg5 harg5 arg6 harg6 arg7 harg7 arg8 harg8 arg9 harg9) K := by
    intro E K
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    subst hf0 hf1 hf2 hf3 hf4
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      refine (View.read_writes_eq_canon _ _ _ (coverOut _ _ _ _ _ _ _ _ _ _ _)).trans ?_
      rfl
    isplitl [HT0]; · iexact HT0
    isplitl [HT1]; · iexact HT1
    isplitl [HT2]; · iexact HT2
    iexact HT3

set_option maxHeartbeats 4000000 in
/-- At an IDLE point (its number not below the number of work items) the body touches nothing. -/
theorem body_idle (c : Dev nD) (i : grid0.Coords) (arg5 : Memref sig .tc .vmem S256x2816 .fp8e4m3) (harg5 : arg5.IsWhole) (arg6 : Memref sig .tc .vmem S256x1 .f32) (harg6 : arg6.IsWhole) (arg7 : Memref sig .tc .vmem S1x2816x2816 .fp8e4m3) (harg7 : arg7.IsWhole) (arg8 : Memref sig .tc .vmem S1x1x2816 .f32) (harg8 : arg8.IsWhole) (arg9 : Memref sig .tc .vmem S256x2816 .bf16) (harg9 : arg9.IsWhole)
    (x0 : Vec F S256x2816 .fp8e4m3) (x1 : Vec F S256x1 .f32) (x2 : Vec F S1x2816x2816 .fp8e4m3) (x3 : Vec F S1x1x2816 .f32) (Y : Vec F S256x2816 .bf16) (xt0 : TbBuf0 (F := F) c tbM0_0) (xt1 : TbBuf0 (F := F) c tbM0_1) (xt2 : TbBuf0 (F := F) c tbM0_2) (xt3 : TbBuf0 (F := F) c tbM0_3)
    (hc : ¬ k0_cond1 i (wd3 c xt3) = 1#1) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare Y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (Y) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8_matmul i tbM0_0 htbM0_0 tbM0_1 htbM0_1 tbM0_2 htbM0_2 tbM0_3 htbM0_3 arg5 harg5 arg6 harg6 arg7 harg7 arg8 harg8 arg9 harg9) K := by
    intro E K
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    subst hf0 hf1 hf2 hf3 hf4
    sl_exec
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      rfl
    isplitl [HT0]; · iexact HT0
    isplitl [HT1]; · iexact HT1
    isplitl [HT2]; · iexact HT2
    iexact HT3

end Cert.KernelIdeal.Grouped

end
-- ==== Proof.KI.Run.lean ====
/- The grouped product's run: the proof data with the output tile held to a relation, the body obligation, the launch,
   and the frame. -/
module

public import proofs.«01_k».proof.Proof.KI.Body

@[expose] public section

-- membership in a rectangle of production extents (`View.cover_of_tiled`): the elaborator's structural look
-- recurses once per coordinate of the long axes
set_option maxRecDepth 16384

noncomputable section

namespace Cert.KernelIdeal.Grouped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data

The output tile is carried from one grid point to the next: consecutive work items of one row tile add their rows to
it.  Its contents are therefore held to a relation `Rl`, a parameter here; the frame takes the relation that always
holds, the value proof one that names the finished rows. -/

/-- The window held to a relation: the output's. -/
def marked : Fin 5 → Bool := fun w => w.val == 4

/-- The exact part of the proof data on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation -/

/-- The index into the table of group starts is inside it at every active point. -/
abbrev Chk : Prop := ∀ (c : Dev nD) (i : grid0.Coords), k0_chk1 i (wd3 (F := F) c (tbl m 3)) (wd0 (F := F) c i (tbl m 0))

/-- What the body leaves in the output tile at point `t`, having found `Y` there. -/
def bodyOut (hO : Ok m) (hK : Chk m) (c : Dev nD) (t : Fin (cfgM m hO).N) (Y : Vec F S256x2816 .bf16) : Vec F S256x2816 .bf16 :=
  if hc : k0_cond1 (grid0.coords t) (wd3 (F := F) c (tbl m 3)) = 1#1 then
    outv (wd2 c (wd0 c (grid0.coords t) (tbl m 0)) (hK c _ hc) (tbl m 2)) (wd1 c (grid0.coords t) (tbl m 1))
      (iblk m hO c 0 t) (iblk m hO c 1 t) (iblk m hO c 2 t) (iblk m hO c 3 t) Y
  else Y

/-- A relation on what each window holds after a point. -/
abbrev Rel (hO : Ok m) : Type :=
  (c : Dev nD) → (w : Fin (cfgM m hO).W) → Fin (cfgM m hO).N → (((cfgM m hO).win w).block.Idx → Elt F ((cfgM m hO).win w).elt) → Prop

/-- The relational proof data: the inputs exact, the output held to `Rl`. -/
abbrev rdat (hO : Ok m) (Rl : Rel m hO) (c : Dev nD) : Pipeline.RDat τ (Elt F) Unit ℕ (UR sig nD τ) ℕ (cfgM m hO) c :=
  (dats m hO 0 c).toRRel marked (Rl c)

/-- The relation is kept: whatever the body may find in the output tile, what it leaves there meets `Rl`. -/
abbrev Step (hO : Ok m) (hK : Chk m) (Rl : Rel m hO) : Prop :=
  ∀ (c : Dev nD) (t : Fin (cfgM m hO).N) (Y : Vec F S256x2816 .bf16), (rdat m hO Rl c).Finds 4 t Y → Rl c 4 t (bodyOut m hO hK c t Y)

def bodyPre (hO : Ok m) (Rl : Rel m hO) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ Y, ⌜(rdat m hO Rl c).Finds 4 t Y⌝ ∗ owns (c : Thread nD τ) (ms0_4 m hO t) fullShare Y))

def bodyPost (hO : Ok m) (Rl : Rel m hO) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ X, ⌜Rl c 4 t X⌝ ∗ owns (c : Thread nD τ) (ms0_4 m hO t) fullShare X))

/-- The body at any point, on the staging memrefs, in one form for both cases of its guard. -/
theorem body_any (hO : Ok m) (hK : Chk m) (c : Dev nD) (t : Fin (cfgM m hO).N) (Y : Vec F S256x2816 .bf16) (E : Set ℕ) (K : PUnit → sProp 𝕄) :
    iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare Y ∗ tbPt0 c tbM0_0 (tbl m 0) ∗ tbPt0 c tbM0_1 (tbl m 1) ∗ tbPt0 c tbM0_2 (tbl m 2) ∗ tbPt0 c tbM0_3 (tbl m 3)
        ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (bodyOut m hO hK c t Y) ∗ tbPt0 c tbM0_0 (tbl m 0) ∗ tbPt0 c tbM0_1 (tbl m 1) ∗ tbPt0 c tbM0_2 (tbl m 2) ∗ tbPt0 c tbM0_3 (tbl m 3)) -∗ K ⟨⟩))
      ⊢ wp frame (wpE (defs₀ (F := F)) Variants.none c none) E (bodyAt0 (adm m hO) t) K := by
  unfold bodyOut
  split
  case isTrue hc =>
    exact body_active c (grid0.coords t) _ _ _ _ _ _ _ _ _ _ (iblk m hO c 0 t) (iblk m hO c 1 t) (iblk m hO c 2 t) (iblk m hO c 3 t) Y (tbl m 0) (tbl m 1) (tbl m 2) (tbl m 3) hc (hK c _) E K
  case isFalse hc =>
    exact body_idle c (grid0.coords t) _ _ _ _ _ _ _ _ _ _ (iblk m hO c 0 t) (iblk m hO c 1 t) (iblk m hO c 2 t) (iblk m hO c 3 t) Y (tbl m 0) (tbl m 1) (tbl m 2) (tbl m 3) hc E K

theorem sound_body (hO : Ok m) (hK : Chk m) (Rl : Rel m hO) (hS : Step m hO hK Rl) (c : Dev nD) (t : Fin (cfgM m hO).N) :
    bodyPre m hO Rl c t ⊢ wp frame (wpE (defs₀ (F := F)) Variants.none c none) Set.univ (bodyAt0 (adm m hO) t) (fun _ => bodyPost m hO Rl c t) := by
  unfold bodyPre bodyPost
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3⟩⟩, Ho, ⟨%d0, H0⟩, ⟨%d1, H1⟩, ⟨%d2, H2⟩, ⟨%d3, H3⟩, ⟨%Y, %hY, H4⟩⟩
  iapply (body_any m hO hK c t Y Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexists _; isplitr; swap; · iexact H4
  ipureintro; exact hS c t Y hY

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hK : Chk m) (Rl : Rel m hO) (hS : Step m hO hK Rl) (c : Dev nD) :
    Pipeline.BodyObligationRel (dats (F := F) m hO 0 c) (defs₀ (F := F)) Variants.none () Set.univ marked (Rl c) := fun t => by
  rw [bigSep_W0, bigSep_W0, defs₀_row m hO]
  exact triple_restated (sound_body m hO hK Rl hS c t) rfl .rfl fun _ => .rfl

/-! ## The run -/

-- the launch theorem's implicit arguments are found by unifying its conclusion with this one, which takes unfolding plain
-- definitions in a metavariable's type
set_option maxHeartbeats 4000000 in
set_option backward.isDefEq.respectTransparency.types false in
/-- THE LAUNCH: from any memory whose tables are admissible, every execution terminates with every counter at zero, the
    windows' arrays in the proof data's relation to their entry contents, every other buffer as the region found it. -/
theorem run_main (hO : Ok m) (hK : Chk m) (Rl : Rel m hO) (hS : Step m hO hK Rl) :
    θ_run defs (onTc (τ := τ) (main (F := F))) (s₀ m ρ) (fun r => (Pipeline.RDat.FramePost ((Pipeline.pin pcfgs fun _ => adm m hO) 0) (rdat m hO Rl) (V m)) r ∧ r.2.sem = fun _ => 0) :=
by
  refine Pipeline.RDat.θ_run_frameP (Q' := _) pcfgs (fun _ => adm m hO) (0 : Fin 1) launch0 defs₀ Variants.none (rdat m hO Rl) m ρ main
    (V := V m) ?hbody ?hshare ?howed ?hmain ?hA ?hpf ?hΦ
  case hbody => exact fun c => (body_obligation m hO hK Rl hS c).toRRel
  case hshare => exact fun c => (dats m hO 0 c).share_full fun _ => rfl
  case howed => exact fun _ _ => rfl
  case hmain => exact hmain m Variants.none
  case hA => exact A_eq m hO
  case hpf => exact V_pre m
  case hΦ => exact fun _ _ => rfl

/-- THE FRAME: under the tables' side conditions every execution terminates, the arguments end as they were, and every
    counter is at zero. -/
theorem frame (hO : Ok m) (hK : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (rdat m hO fun _ _ _ _ => True) (A_eq m hO) ((θ_run defs _ _).mono (fun _ h => h.1) (run_main m ρ hO hK _ fun _ _ _ _ => trivial)))
    ((θ_run defs _ _).mono (fun _ h => h.2) (run_main m ρ hO hK (fun _ _ _ _ => True) fun _ _ _ _ => trivial))

end Cert.KernelIdeal.Grouped

end
-- ==== Proof.KI.Facts.lean ====
/- What the launch needs of its tables, for group sizes that fit: every word read is the schedule's number
   (Proof/Plan.lean), so every block lies inside its array (`ok_of`) and every group inside the table of starts (`chk_of`). -/
module

public import proofs.«01_k».proof.Proof.KI.Tables
public import proofs.«01_k».proof.Proof.KI.Run
public import proofs.«01_k».proof.Proof.Sizes

@[expose] public section

set_option maxRecDepth 16384

namespace Cert.KernelIdeal.Grouped

open Cert.KernelIdeal.Gen
open Idealize.ShloMosaic Idealize.ShloMosaic.TcCoe Idealize.ShloMosaic.ValueIdx
open Cert.Grouped Cert.Grouped.Plan

variable {F : FTy → Type} [FloatOps F] (m : (ℓ : Loc nD τ sig) → Buf (Elt F) ℓ)

/-- The group sizes as naturals. -/
abbrev sz : ℕ → ℕ := nat (sizes m 0)

/-- A grid point's number. -/
abbrev num (i : grid0.Coords) : Fin 79 := i 0

variable (hf : Fits (sizes m 0))
include hf

theorem tbl0 (k : Fin 79) : (tbl m 0 : IVec (Routing.shape1 79) 32) (ix1 k) = BitVec.ofNat 32 (g (sz m) k.val) :=
  (congrFun (V_groups m 0) _).trans (Words.groups_ap _ (nat_spec _) hf k)
theorem tbl1 (k : Fin 79) : (tbl m 1 : IVec (Routing.shape1 79) 32) (ix1 k) = BitVec.ofNat 32 (t (sz m) k.val) :=
  (congrFun (V_rowTiles m 0) _).trans (Words.rowTiles_ap _ (nat_spec _) hf k)
theorem tbl2 (k : Fin 32) : (tbl m 2 : IVec (Routing.shape1 32) 32) (ix1 k) = BitVec.ofNat 32 (E (sz m) k.val) :=
  (congrFun (V_starts m 0) _).trans (Words.starts_ap _ (nat_spec _) hf k)
theorem tbl3 : (tbl m 3 : IVec (Routing.shape1 1) 32) (ix1 (0 : Fin 1)) = BitVec.ofNat 32 (total (sz m)) :=
  (congrFun (V_all m 0) _).trans (Words.all1_ap _ (nat_spec _) hf)

theorem num_word (i : grid0.Coords) : (BitVec.ofNat 32 (i 0).val).toNat = (num i).val := by
  have h : (i 0).val < 79 := (num i).isLt
  rw [BitVec.toNat_ofNat, Nat.mod_eq_of_lt (by omega)]

theorem wd0_eq (c : Dev nD) (i : grid0.Coords) : wd0 c i (tbl m 0) = BitVec.ofNat 32 (g (sz m) (num i).val) := by
  refine Eq.trans ?_ (tbl0 m hf (num i))
  show (tbl m 0 : IVec (Routing.shape1 79) 32) _ = _
  refine congrArg (tbl m 0 : IVec (Routing.shape1 79) 32) (funext fun a => Fin.ext ?_)
  match a with
  | ⟨0, _⟩ =>
    have := num_word m hf i
    show (BitVec.ofNat 32 (i 0).val).toNat + 0 * 1 = _
    omega

theorem wd1_eq (c : Dev nD) (i : grid0.Coords) : wd1 c i (tbl m 1) = BitVec.ofNat 32 (t (sz m) (num i).val) := by
  refine Eq.trans ?_ (tbl1 m hf (num i))
  show (tbl m 1 : IVec (Routing.shape1 79) 32) _ = _
  refine congrArg (tbl m 1 : IVec (Routing.shape1 79) 32) (funext fun a => Fin.ext ?_)
  match a with
  | ⟨0, _⟩ =>
    have := num_word m hf i
    show (BitVec.ofNat 32 (i 0).val).toNat + 0 * 1 = _
    omega

theorem wd3_eq (c : Dev nD) : wd3 c (tbl m 3) = BitVec.ofNat 32 (total (sz m)) := by
  refine Eq.trans ?_ (tbl3 m hf)
  show (tbl m 3 : IVec (Routing.shape1 1) 32) _ = _
  exact congrArg (tbl m 3 : IVec (Routing.shape1 1) 32) (funext fun a => by
    match a with
    | ⟨0, _⟩ => rfl)

theorem wd2_eq (c : Dev nD) (w : BitVec 32) (k : Fin 32) (hw : w = BitVec.ofNat 32 k.val) (h : ∀ a, k0_off3 w a + S1.size a ≤ S32.size a) :
    wd2 c w h (tbl m 2) = BitVec.ofNat 32 (E (sz m) k.val) := by
  refine Eq.trans ?_ (tbl2 m hf k)
  show (tbl m 2 : IVec (Routing.shape1 32) 32) _ = _
  refine congrArg (tbl m 2 : IVec (Routing.shape1 32) 32) (funext fun a => Fin.ext ?_)
  match a with
  | ⟨0, _⟩ =>
    subst hw
    have : (BitVec.ofNat 32 k.val).toNat = k.val := by rw [BitVec.toNat_ofNat, Nat.mod_eq_of_lt (by have := k.isLt; omega)]
    show (BitVec.ofNat 32 k.val).toNat + 0 * 1 = _
    omega

/-- A step works exactly while it stands at a pair. -/
theorem cond_iff (c : Dev nD) (i : grid0.Coords) : k0_cond1 i (wd3 c (tbl m 3)) = 1#1 ↔ (num i).val < total (sz m) := by
  have ht := total_bounds (sz m) hf
  have hi := (num i).isLt
  rw [wd3_eq m hf]
  have key : ∀ b : Bool, Scalar.cmpi .ne (Scalar.extui (BitVec.ofBool b) : BitVec 32) 0#32 = 1#1 ↔ b = true := by decide
  show Scalar.cmpi .ne (Scalar.extui (Scalar.cmpi .slt (BitVec.ofNat 32 (num i).val) (BitVec.ofNat 32 (total (sz m)))) : BitVec 32) 0#32 = 1#1 ↔ _
  rw [show Scalar.cmpi .slt (BitVec.ofNat 32 (num i).val) (BitVec.ofNat 32 (total (sz m))) = BitVec.ofBool (decide ((num i).val < total (sz m)))
    from WordCmp.cmpi_slt_ofNat (w := 32) (by omega) (by omega), key, decide_eq_true_eq]

/-- Every group is inside the table of starts. -/
theorem chk_of : Chk m := by
  intro c i hc a
  rw [wd0_eq m hf]
  have hg := g_lt (sz m) hf (num i).val
  have : (BitVec.ofNat 32 (g (sz m) (num i).val)).toNat = g (sz m) (num i).val := by rw [BitVec.toNat_ofNat, Nat.mod_eq_of_lt (by omega)]
  match a with
  | ⟨0, _⟩ =>
    show (BitVec.ofNat 32 (g (sz m) (num i).val)).toNat + 1 ≤ 32
    omega

/-- The row tile an index map reads. -/
theorem at1 (i : grid0.Coords) :
    ((tbl m).at 1 (Rect.unit (s := S79) ![(Scalar.indexCast (BitVec.ofNat 32 (i 0).val) : Index).toNat] S1.size (k0_off1_inb i)) numel1_S1 : BitVec 32).toNat
      = t (sz m) (num i).val := by
  have h : ((tbl m).at 1 (Rect.unit (s := S79) ![(Scalar.indexCast (BitVec.ofNat 32 (i 0).val) : Index).toNat] S1.size (k0_off1_inb i)) numel1_S1 : BitVec 32)
      = wd1 0 i (tbl m 1) := rfl
  rw [h, wd1_eq m hf, BitVec.toNat_ofNat, Nat.mod_eq_of_lt (by have := t_lt (sz m) hf (num i).val; omega)]

/-- The group an index map reads. -/
theorem at0 (i : grid0.Coords) :
    ((tbl m).at 0 (Rect.unit (s := S79) ![(Scalar.indexCast (BitVec.ofNat 32 (i 0).val) : Index).toNat] S1.size (k0_off1_inb i)) numel1_S1 : BitVec 32).toNat
      = g (sz m) (num i).val := by
  have h : ((tbl m).at 0 (Rect.unit (s := S79) ![(Scalar.indexCast (BitVec.ofNat 32 (i 0).val) : Index).toNat] S1.size (k0_off1_inb i)) numel1_S1 : BitVec 32)
      = wd0 0 i (tbl m 0) := rfl
  rw [h, wd0_eq m hf, BitVec.toNat_ofNat, Nat.mod_eq_of_lt (by have := g_lt (sz m) hf (num i).val; omega)]

/-! ## The blocks -/

theorem map0 (i : grid0.Coords) : cc0_transform_0 k0_off1_inb numel1_S1 (tbl m) i = ![t (sz m) (num i).val, 0] := by
  show ![_, _] = _; rw [at1 m hf]; rfl
theorem map1 (i : grid0.Coords) : cc0_transform_1 k0_off1_inb numel1_S1 (tbl m) i = ![t (sz m) (num i).val, 0] := by
  show ![_, _] = _; rw [at1 m hf]; rfl
theorem map2 (i : grid0.Coords) : cc0_transform_2 k0_off1_inb numel1_S1 (tbl m) i = ![g (sz m) (num i).val, 0, 0] := by
  show ![_, _, _] = _; rw [at0 m hf]; rfl
theorem map3 (i : grid0.Coords) : cc0_transform_3 k0_off1_inb numel1_S1 (tbl m) i = ![g (sz m) (num i).val, 0, 0] := by
  show ![_, _, _] = _; rw [at0 m hf]; rfl
theorem map4 (i : grid0.Coords) : cc0_transform_4 k0_off1_inb numel1_S1 (tbl m) i = ![t (sz m) (num i).val, 0] := by
  show ![_, _] = _; rw [at1 m hf]; rfl

/-- Every block of every window lies inside its array, and is whole words of it. -/
theorem ok_of : Ok m := by
  have ht := fun i : grid0.Coords => t_lt (sz m) hf (num i).val
  have hg := fun i : grid0.Coords => g_lt (sz m) hf (num i).val
  refine ⟨fun i => ⟨?_, .inr (.inl ?_)⟩, fun i => ⟨?_, .inl rfl⟩, fun i => ⟨?_, .inr (.inr ?_)⟩, fun i => ⟨?_, .inl rfl⟩, fun i => ⟨?_, .inr (.inl ?_)⟩⟩
  · rw [map0 m hf]; intro a; have := ht i
    match a with
    | ⟨0, _⟩ => show (t (sz m) (num i).val + 1) * 256 ≤ 12288; omega
    | ⟨1, _⟩ => show (0 + 1) * 2816 ≤ 2816; omega
  · refine .inr ⟨le_refl 2, rfl, .inl ⟨?_, show 4 ∣ 256 by decide⟩⟩
    show 4 ∣ cc0_transform_0 k0_off1_inb numel1_S1 (tbl m) i 0 * 256
    omega
  · rw [map1 m hf]; intro a; have := ht i
    match a with
    | ⟨0, _⟩ => show (t (sz m) (num i).val + 1) * 256 ≤ 12288; omega
    | ⟨1, _⟩ => show (0 + 1) * 1 ≤ 1; omega
  · rw [map2 m hf]; intro a; have := hg i
    match a with
    | ⟨0, _⟩ => show (g (sz m) (num i).val + 1) * 1 ≤ 32; omega
    | ⟨1, _⟩ => show (0 + 1) * 2816 ≤ 2816; omega
    | ⟨2, _⟩ => show (0 + 1) * 2816 ≤ 2816; omega
  · refine ⟨show 2 ≤ 3 by omega, rfl, ?_, rfl⟩
    show cc0_transform_2 k0_off1_inb numel1_S1 (tbl m) i 1 * 2816 = 0
    rw [map2 m hf]; rfl
  · rw [map3 m hf]; intro a; have := hg i
    match a with
    | ⟨0, _⟩ => show (g (sz m) (num i).val + 1) * 1 ≤ 32; omega
    | ⟨1, _⟩ => show (0 + 1) * 1 ≤ 1; omega
    | ⟨2, _⟩ => show (0 + 1) * 2816 ≤ 2816; omega
  · rw [map4 m hf]; intro a; have := ht i
    match a with
    | ⟨0, _⟩ => show (t (sz m) (num i).val + 1) * 256 ≤ 12288; omega
    | ⟨1, _⟩ => show (0 + 1) * 2816 ≤ 2816; omega
  · refine .inr ⟨le_refl 2, rfl, .inl ⟨?_, show 2 ∣ 256 by decide⟩⟩
    show 2 ∣ cc0_transform_4 k0_off1_inb numel1_S1 (tbl m) i 0 * 256
    omega

end Cert.KernelIdeal.Grouped
-- ==== Proof.KI.Tile.lean ====
/- What an active grid point leaves in the output tile, entry by entry, over the extended reals. -/
module

public import proofs.«01_k».proof.Proof.KI.Body
public import Idealize.ShloMosaic.Lib.Pointwise
public import Idealize.ShloMosaic.Lib.Pipeline.ValueKit.Tiles

@[expose] public section

set_option maxRecDepth 16384

noncomputable section

namespace Cert.KernelIdeal.Grouped

open Cert.KernelIdeal.Gen
open Idealize.ShloMosaic Idealize.ShloMosaic.TcCoe

/-- One column tile at an index: the old entry where its row is kept, elsewhere the scaled row-by-column product. -/
theorem tileOut_ap (keep : IVec S256x1 1) (x0 : Vec Ideal S256x2816 .fp8e4m3) (x1 : Vec Ideal S256x1 .f32) (w : Vec Ideal S1x2816x256 .fp8e4m3)
    (s : Vec Ideal S1x1x256 .f32) (o : Vec Ideal S256x256 .bf16) (i : S256x256.Idx) :
    tileOut keep x0 x1 w s o i = if keep (ix2 (i 0) 0) = 1#1 then o i
      else ((∑ k : Fin 2816, x0 (ix2 (i 0) k) * w (ix3 0 k (i 1))) * x1 (ix2 (i 0) 0)) * s (ix3 0 0 (i 1)) := by
  unfold tileOut
  pointwise [k0_pay6]
  rfl

/-- A row is kept when it lies before the group's first row. -/
theorem keep_iff (E t : ℕ) (hE : E ≤ 12288) (ht : t < 48) (r : Fin 256) :
    k0_pay2 (F := Ideal) (BitVec.ofNat 32 E) (BitVec.ofNat 32 t) (ix2 r 0) = 1#1 ↔ t * 256 + r.val < E := by
  have h : k0_pay2 (F := Ideal) (BitVec.ofNat 32 E) (BitVec.ofNat 32 t) (ix2 r 0)
      = BitVec.ofBool ((BitVec.ofNat 32 r.val).slt (BitVec.ofNat 32 E - BitVec.ofNat 32 t * 256#32)) := by
    pointwise [k0_pay2]
    rfl
  have key : ∀ b : Bool, BitVec.ofBool b = 1#1 ↔ b = true := by decide
  have hr := r.isLt
  have e : ∀ k : ℕ, k < 2147483648 → (BitVec.ofNat 32 k).toInt = k := fun k hk => by
    rw [BitVec.toInt_eq_toNat_cond, BitVec.toNat_ofNat, Nat.mod_eq_of_lt (by omega), if_pos (by omega)]
  rw [h, key, BitVec.slt_iff_toInt_lt, ← BitVec.ofNat_mul, BitVec.toInt_sub, e _ (by omega), e _ (by omega), e _ (by omega), Int.bmod_def]
  omega

/-- The entry at row `r`, column `c` that an active point leaves in the output tile. -/
def entry (v7 v9 : BitVec 32) (x0 : Vec Ideal S256x2816 .fp8e4m3) (x1 : Vec Ideal S256x1 .f32) (x2 : Vec Ideal S1x2816x2816 .fp8e4m3)
    (x3 : Vec Ideal S1x1x2816 .f32) (Y : Vec Ideal S256x2816 .bf16) (r : Fin 256) (c : Fin 2816) : Ideal .bf16 :=
  if k0_pay2 (F := Ideal) v7 v9 (ix2 r 0) = 1#1 then Y (ix2 r c)
  else ((∑ k : Fin 2816, x0 (ix2 r k) * x2 (ix3 0 k c)) * x1 (ix2 r 0)) * x3 (ix3 0 0 c)

/-- One column tile, `n` columns in, holds the entries at its columns. -/
theorem tile_at (n : ℕ) (ho : ∀ a, (![0, n] : Fin 2 → ℕ) a + S256x256.size a ≤ S256x2816.size a)
    (hw : ∀ a, (![0, 0, n] : Fin 3 → ℕ) a + S1x2816x256.size a ≤ S1x2816x2816.size a)
    (hs : ∀ a, (![0, 0, n] : Fin 3 → ℕ) a + S1x1x256.size a ≤ S1x1x2816.size a)
    (v7 v9 : BitVec 32) (x0 : Vec Ideal S256x2816 .fp8e4m3) (x1 : Vec Ideal S256x1 .f32) (x2 : Vec Ideal S1x2816x2816 .fp8e4m3)
    (x3 : Vec Ideal S1x1x2816 .f32) (Y : Vec Ideal S256x2816 .bf16) (r : Fin 256) (c : Fin 2816) (x : S256x256.Idx)
    (hx : (Rect.unit (s := S256x2816) ![0, n] S256x256.size ho).idx x = ix2 r c) :
    tileOut (k0_pay2 (F := Ideal) v7 v9) (View.ld x0 xR) (View.ld x1 xsR) (View.ld x2 (Rect.unit (s := S1x2816x2816) ![0, 0, n] S1x2816x256.size hw))
      (View.ld x3 (Rect.unit (s := S1x1x2816) ![0, 0, n] S1x1x256.size hs)) (View.ld Y (Rect.unit (s := S256x2816) ![0, n] S256x256.size ho)) x
      = entry v7 v9 x0 x1 x2 x3 Y r c := by
  have h0 : (x 0).val = r.val := by
    have := congrArg Fin.val (congrFun hx 0)
    change 0 + 1 * (x 0).val = r.val at this
    omega
  have h1 : n + (x 1).val = c.val := by
    have := congrArg Fin.val (congrFun hx 1)
    change n + 1 * (x 1).val = c.val at this
    omega
  have hr : x 0 = r := Fin.ext h0
  rw [tileOut_ap]
  unfold entry
  have hY : View.ld Y (Rect.unit (s := S256x2816) ![0, n] S256x256.size ho) x = Y (ix2 r c) := congrArg Y hx
  have hX : ∀ k, View.ld x0 xR (ix2 (x 0) k) = x0 (ix2 r k) := fun k => congrArg x0 (funext fun a => Fin.ext (by
    match a with
    | ⟨0, _⟩ => show 0 + 1 * (x 0).val = r.val; omega
    | ⟨1, _⟩ => show 0 + 1 * k.val = k.val; omega))
  have hXs : View.ld x1 xsR (ix2 (x 0) 0) = x1 (ix2 r 0) := congrArg x1 (funext fun a => Fin.ext (by
    match a with
    | ⟨0, _⟩ => show 0 + 1 * (x 0).val = r.val; omega
    | ⟨1, _⟩ => rfl))
  have hW : ∀ k, View.ld x2 (Rect.unit (s := S1x2816x2816) ![0, 0, n] S1x2816x256.size hw) (ix3 0 k (x 1)) = x2 (ix3 0 k c) :=
    fun k => congrArg x2 (funext fun a => Fin.ext (by
      match a with
      | ⟨0, _⟩ => rfl
      | ⟨1, _⟩ => show 0 + 1 * k.val = k.val; omega
      | ⟨2, _⟩ => show n + 1 * (x 1).val = c.val; omega))
  have hS : View.ld x3 (Rect.unit (s := S1x1x2816) ![0, 0, n] S1x1x256.size hs) (ix3 0 0 (x 1)) = x3 (ix3 0 0 c) :=
    congrArg x3 (funext fun a => Fin.ext (by
      match a with
      | ⟨0, _⟩ => rfl
      | ⟨1, _⟩ => rfl
      | ⟨2, _⟩ => show n + 1 * (x 1).val = c.val; omega))
  rw [hY, hXs, hS, hr]
  simp only [hW]
  rw [hr] at hX
  simp only [hX]

/-- The tile that an active point leaves, at row `r` and column `c`. -/
theorem outv_ap (v7 v9 : BitVec 32) (x0 : Vec Ideal S256x2816 .fp8e4m3) (x1 : Vec Ideal S256x1 .f32) (x2 : Vec Ideal S1x2816x2816 .fp8e4m3)
    (x3 : Vec Ideal S1x1x2816 .f32) (Y : Vec Ideal S256x2816 .bf16) (r : Fin 256) (c : Fin 2816) :
    outv v7 v9 x0 x1 x2 x3 Y (ix2 r c) = entry v7 v9 x0 x1 x2 x3 Y r c := by
  unfold outv
  refine View.canon_eq_of_allAt _ _ _ (coverOut _ _ _ _ _ _ _ _ _ _ _ _) ?_
  intro p hp x hx
  simp only [List.mem_cons, List.not_mem_nil, or_false] at hp
  rcases hp with rfl | rfl | rfl | rfl | rfl | rfl | rfl | rfl | rfl | rfl | rfl <;> exact tile_at _ _ _ _ v7 v9 x0 x1 x2 x3 Y r c x hx

end Cert.KernelIdeal.Grouped

end
-- ==== Proof.Spec.lean ====
/- What both programs compute: the product of every row with its group's matrix, scaled by the row and by the column. -/
module

public import proofs.«01_k».proof.Proof.Plan
public import Idealize.ShloMosaic.Lib.Pointwise

@[expose] public section

noncomputable section

namespace Cert.Grouped

open Idealize.ShloMosaic

/-- The group of row `R`, for group sizes `s`. -/
abbrev grp (s : ℕ → ℕ) (R : ℕ) : Fin 32 := ⟨Plan.e s R % 32, Nat.mod_lt _ (by decide)⟩

/-- The result at row `R`, column `c`: the row times column `c` of its group's matrix, times the row's scale, times the
    group's scale of the column. -/
def cell (s : ℕ → ℕ) (x : Vec Ideal ⟨2, ![12288, 2816]⟩ .fp8e4m3) (xs : Vec Ideal ⟨2, ![12288, 1]⟩ .f32)
    (w : Vec Ideal ⟨3, ![32, 2816, 2816]⟩ .fp8e4m3) (ws : Vec Ideal ⟨2, ![32, 2816]⟩ .f32) (R : Fin 12288) (c : Fin 2816) : Ideal .bf16 :=
  ((∑ k : Fin 2816, x (ix2 R k) * w (ix3 (grp s R.val) k c)) * xs (ix2 R 0)) * ws (ix2 (grp s R.val) c)

/-- The whole result. -/
def result (s : ℕ → ℕ) (x : Vec Ideal ⟨2, ![12288, 2816]⟩ .fp8e4m3) (xs : Vec Ideal ⟨2, ![12288, 1]⟩ .f32)
    (w : Vec Ideal ⟨3, ![32, 2816, 2816]⟩ .fp8e4m3) (ws : Vec Ideal ⟨2, ![32, 2816]⟩ .f32) : Vec Ideal ⟨2, ![12288, 2816]⟩ .bf16 :=
  fun i => cell s x xs w ws (i 0) (i 1)

end Cert.Grouped

end
-- ==== Proof.KI.Blocks.lean ====
/- The blocks of the arrays that a grid point of the kernel works on, element by element. -/
module

public import proofs.«01_k».proof.Proof.KI.Facts
public import proofs.«01_k».proof.Proof.KI.Tile
public import proofs.«01_k».proof.Proof.Spec
public import Idealize.ShloMosaic.Lib.Pipeline.Value

@[expose] public section

set_option maxRecDepth 16384

noncomputable section

namespace Cert.KernelIdeal.Grouped

open Cert.KernelIdeal.Gen
open Idealize.ShloMosaic Idealize.ShloMosaic.TcCoe
open Cert.Grouped Cert.Grouped.Plan

variable (m : (ℓ : Loc nD τ sig) → Buf (Elt Ideal) ℓ) (hf : Fits (sizes m 0)) (hO : Ok m)
include hf

omit hf in
/-- The grid has one axis: a point is its own coordinate. -/
theorem num_coords (u : Fin (cfgM m hO).N) : (num (grid0.coords u)).val = u.val := by
  have hu : u.val < 79 := lt_of_lt_of_eq u.isLt N_0
  refine (Pipeline.Grid.coords_val (G := grid0) u 0 (S := 1) (B := 79) (by decide) rfl).trans ?_
  omega

theorem index0 (u : Fin (cfgM m hO).N) : ((cfgM m hO).win 0).index u = ![t (sz m) u.val, 0] := by
  rw [← num_coords m hO u]; exact map0 m hf _
theorem index1 (u : Fin (cfgM m hO).N) : ((cfgM m hO).win 1).index u = ![t (sz m) u.val, 0] := by
  rw [← num_coords m hO u]; exact map1 m hf _
theorem index2 (u : Fin (cfgM m hO).N) : ((cfgM m hO).win 2).index u = ![g (sz m) u.val, 0, 0] := by
  rw [← num_coords m hO u]; exact map2 m hf _
theorem index3 (u : Fin (cfgM m hO).N) : ((cfgM m hO).win 3).index u = ![g (sz m) u.val, 0, 0] := by
  rw [← num_coords m hO u]; exact map3 m hf _
theorem index4 (u : Fin (cfgM m hO).N) : ((cfgM m hO).win 4).index u = ![t (sz m) u.val, 0] := by
  rw [← num_coords m hO u]; exact map4 m hf _

/-- The row of the array under row `r` of the tile at point `u`. -/
abbrev row (u : ℕ) (r : Fin 256) : Fin 12288 := ⟨t (sz m) u * 256 + r.val, by have := t_lt (sz m) hf u; omega⟩

/-- The group of point `u`. -/
abbrev grpAt (u : ℕ) : Fin 32 := ⟨g (sz m) u, g_lt (sz m) hf u⟩

/-! The four input blocks, of any array. -/

omit hf in
theorem read0 (A : Vec Ideal S12288x2816 .fp8e4m3) (u : Fin (cfgM m hO).N) (r : Fin 256) (k : Fin 2816) (n : ℕ)
    (hi : ((cfgM m hO).win 0).index u = ![n, 0]) (R : Fin 12288) (hR : R.val = n * 256 + r.val) :
    ((((cfgM m hO).win 0).blk u).view.read (Elt Ideal) A : Vec Ideal S256x2816 .fp8e4m3) (ix2 r k) = A (ix2 R k) := by
  have h : ∀ a, ((((cfgM m hO).win 0).rect u).emb (ix2 r k) a).val = ((ix2 R k : (S12288x2816).Idx) a).val := by
    intro a
    refine (Pipeline.Window.rect_emb_val _ u _ a rfl).trans ?_
    refine (congrArg (fun n => n * _ + _) (congrFun hi a)).trans ?_
    match a with
    | ⟨0, _⟩ => exact hR.symm
    | ⟨1, _⟩ => show 0 * 2816 + k.val = k.val; omega
  exact congrArg A (funext fun a => Fin.ext (h a))

omit hf in
theorem read1 (A : Vec Ideal S12288x1 .f32) (u : Fin (cfgM m hO).N) (r : Fin 256) (n : ℕ)
    (hi : ((cfgM m hO).win 1).index u = ![n, 0]) (R : Fin 12288) (hR : R.val = n * 256 + r.val) :
    ((((cfgM m hO).win 1).blk u).view.read (Elt Ideal) A : Vec Ideal S256x1 .f32) (ix2 r 0) = A (ix2 R 0) := by
  have h : ∀ a, ((((cfgM m hO).win 1).rect u).emb (ix2 r 0) a).val = ((ix2 R 0 : (S12288x1).Idx) a).val := by
    intro a
    refine (Pipeline.Window.rect_emb_val _ u _ a rfl).trans ?_
    refine (congrArg (fun n => n * _ + _) (congrFun hi a)).trans ?_
    match a with
    | ⟨0, _⟩ => exact hR.symm
    | ⟨1, _⟩ => rfl
  exact congrArg A (funext fun a => Fin.ext (h a))

omit hf in
theorem read2 (A : Vec Ideal S32x2816x2816 .fp8e4m3) (u : Fin (cfgM m hO).N) (k j : Fin 2816) (n : ℕ)
    (hi : ((cfgM m hO).win 2).index u = ![n, 0, 0]) (e : Fin 32) (he : e.val = n) :
    ((((cfgM m hO).win 2).blk u).view.read (Elt Ideal) A : Vec Ideal S1x2816x2816 .fp8e4m3) (ix3 0 k j) = A (ix3 e k j) := by
  have h : ∀ a, ((((cfgM m hO).win 2).rect u).emb (ix3 0 k j) a).val = ((ix3 e k j : (S32x2816x2816).Idx) a).val := by
    intro a
    refine (Pipeline.Window.rect_emb_val _ u _ a rfl).trans ?_
    refine (congrArg (fun n => n * _ + _) (congrFun hi a)).trans ?_
    match a with
    | ⟨0, _⟩ => show n * 1 + 0 = e.val; omega
    | ⟨1, _⟩ => show 0 * 2816 + k.val = k.val; omega
    | ⟨2, _⟩ => show 0 * 2816 + j.val = j.val; omega
  exact congrArg A (funext fun a => Fin.ext (h a))

omit hf in
theorem read3 (A : Vec Ideal S32x1x2816 .f32) (u : Fin (cfgM m hO).N) (j : Fin 2816) (n : ℕ)
    (hi : ((cfgM m hO).win 3).index u = ![n, 0, 0]) (e : Fin 32) (he : e.val = n) :
    ((((cfgM m hO).win 3).blk u).view.read (Elt Ideal) A : Vec Ideal S1x1x2816 .f32) (ix3 0 0 j) = A (ix3 e 0 j) := by
  have h : ∀ a, ((((cfgM m hO).win 3).rect u).emb (ix3 0 0 j) a).val = ((ix3 e 0 j : (S32x1x2816).Idx) a).val := by
    intro a
    refine (Pipeline.Window.rect_emb_val _ u _ a rfl).trans ?_
    refine (congrArg (fun n => n * _ + _) (congrFun hi a)).trans ?_
    match a with
    | ⟨0, _⟩ => show n * 1 + 0 = e.val; omega
    | ⟨1, _⟩ => rfl
    | ⟨2, _⟩ => show 0 * 2816 + j.val = j.val; omega
  exact congrArg A (funext fun a => Fin.ext (h a))

omit hf in
/-- The column scales reach the region under a unit axis. -/
theorem scales_ap (x : Vec Ideal S32x2816 .f32) (e : Fin 32) (j : Fin 2816) :
    (shapeCast S32x1x2816 x shapeCasts_S32x2816_S32x1x2816 : Vec Ideal S32x1x2816 .f32) (ix3 e 0 j) = x (ix2 e j) := by
  pointwise

/-- An active point's tile entry, in a row that it computes. -/
theorem entry_eq (c : Dev nD) (u : Fin (cfgM m hO).N) (v7 v9 : BitVec 32) (Y : Vec Ideal S256x2816 .bf16) (r : Fin 256) (j : Fin 2816)
    (hk : ¬ k0_pay2 (F := Ideal) v7 v9 (ix2 r 0) = 1#1) (he : e (sz m) (row m hf u.val r).val = g (sz m) u.val) :
    entry v7 v9 (iblk m hO c 0 u) (iblk m hO c 1 u) (iblk m hO c 2 u) (iblk m hO c 3 u) Y r j
      = cell (sz m) (m ((c.tc : Thread nD τ).loc main_arg0)) (m ((c.tc : Thread nD τ).loc main_arg1)) (m ((c.tc : Thread nD τ).loc main_arg3))
          (m ((c.tc : Thread nD τ).loc main_arg4)) (row m hf u.val r) j := by
  have hg : grp (sz m) (row m hf u.val r).val = grpAt m hf u.val := by
    refine Fin.ext ?_
    show e (sz m) (row m hf u.val r).val % 32 = g (sz m) u.val
    rw [he, Nat.mod_eq_of_lt (g_lt (sz m) hf u.val)]
  have h0 : (V m c (Pipeline.arrRef spec0 0) : Vec Ideal S12288x2816 .fp8e4m3) = m ((c.tc : Thread nD τ).loc main_arg0) := V_main_arg0 m c
  have h1 : (V m c (Pipeline.arrRef spec0 1) : Vec Ideal S12288x1 .f32) = m ((c.tc : Thread nD τ).loc main_arg1) := V_main_arg1 m c
  have h2 : (V m c (Pipeline.arrRef spec0 2) : Vec Ideal S32x2816x2816 .fp8e4m3) = m ((c.tc : Thread nD τ).loc main_arg3) := V_main_arg3 m c
  have h3 : (V m c (Pipeline.arrRef spec0 3) : Vec Ideal S32x1x2816 .f32)
      = shapeCast S32x1x2816 (m ((c.tc : Thread nD τ).loc main_arg4) : Vec Ideal S32x2816 .f32) shapeCasts_S32x2816_S32x1x2816 := V_scales m c
  have e0 := fun k => (read0 m hO (V m c (Pipeline.arrRef spec0 0)) u r k _ (index0 m hf hO u) (row m hf u.val r) rfl).trans (congrFun h0 _)
  have e1 := (read1 m hO (V m c (Pipeline.arrRef spec0 1)) u r _ (index1 m hf hO u) (row m hf u.val r) rfl).trans (congrFun h1 _)
  have e2 := fun k => (read2 m hO (V m c (Pipeline.arrRef spec0 2)) u k j _ (index2 m hf hO u) (grpAt m hf u.val) rfl).trans (congrFun h2 _)
  have e3 := (read3 m hO (V m c (Pipeline.arrRef spec0 3)) u j _ (index3 m hf hO u) (grpAt m hf u.val) rfl).trans ((congrFun h3 _).trans (scales_ap _ _ j))
  unfold entry cell
  rw [if_neg hk, hg]
  refine congrArg₂ _ (congrArg₂ _ (Finset.sum_congr rfl fun k _ => congrArg₂ _ (e0 k) (e2 k)) e1) e3

end Cert.KernelIdeal.Grouped

end
-- ==== Proof.KI.Value.lean ====
/- What the kernel's run leaves in the result: the output tile's contents through the grid points that share it, and the
   whole array after the last write-back. -/
module

public import proofs.«01_k».proof.Proof.KI.Run
public import proofs.«01_k».proof.Proof.KI.Blocks
public import Idealize.ShloMosaic.Lib.Pipeline.ArrRel
public import Idealize.ShloMosaic.Lib.Pipeline.Covers

@[expose] public section

set_option maxRecDepth 16384

noncomputable section

namespace Cert.KernelIdeal.Grouped

open Cert.KernelIdeal.Gen
open Idealize.ShloMosaic Idealize.ShloMosaic.TcCoe
open Idealize.SL Idealize.SL.Sem
open Cert.Grouped Cert.Grouped.Plan

variable (m : (ℓ : Loc nD τ sig) → Buf (Elt Ideal) ℓ) (ρ : Dev nD → PrngReg) (hf : Fits (sizes m 0)) (hO : Ok m) (hK : Chk m)
include hf

/-- The result at row `R`, column `j`, of the arguments on core `c`. -/
abbrev goal (c : Dev nD) (R : Fin 12288) (j : Fin 2816) : Ideal .bf16 :=
  cell (sz m) (m ((c.tc : Thread nD τ).loc main_arg0)) (m ((c.tc : Thread nD τ).loc main_arg1)) (m ((c.tc : Thread nD τ).loc main_arg3))
    (m ((c.tc : Thread nD τ).loc main_arg4)) R j

/-- After point `u` the output tile holds the result in every row before the end of the point's group. -/
def Inv (c : Dev nD) (u : ℕ) (X : Vec Ideal S256x2816 .bf16) : Prop :=
  ∀ (r : Fin 256) (j : Fin 2816), t (sz m) u * 256 + r.val < E (sz m) (g (sz m) u + 1) → X (ix2 r j) = goal m c (row m hf u r) j

/-- The relation the proof data holds the output tile to. -/
def Rl : Rel m hO := fun c w => match w with
  | ⟨4, _⟩ => fun u X => Inv m hf c u.val X
  | _ => fun _ _ => True

/-- The output window writes its tile back where the next point has another tile, and after the last point. -/
theorem flush4 (u : Fin (cfgM m hO).N) : ((cfgM m hO).win 4).flush u = true ↔ u.val + 1 = 79 ∨ (u.val + 1 < 79 ∧ t (sz m) (u.val + 1) ≠ t (sz m) u.val) := by
  have hN : (cfgM m hO).N = 79 := N_0
  refine (Pipeline.Window.flush_out _ rfl u).trans (or_congr (show u.val + 1 = (cfgM m hO).N ↔ _ from ⟨fun h => h.trans hN, fun h => h.trans hN.symm⟩) ?_)
  constructor
  · rintro ⟨h, hne⟩
    refine ⟨lt_of_lt_of_eq h hN, fun e => hne ?_⟩
    refine (index4 m hf hO ⟨u.val + 1, h⟩).trans (Eq.trans ?_ (index4 m hf hO u).symm)
    show ![t (sz m) (u.val + 1), 0] = _
    rw [e]
  · rintro ⟨h, hne⟩
    refine ⟨lt_of_lt_of_eq h hN.symm, fun e => hne ?_⟩
    exact congrFun (((index4 m hf hO ⟨u.val + 1, lt_of_lt_of_eq h hN.symm⟩).symm.trans e).trans (index4 m hf hO u)) 0

/-- Where a point works on the tile of the point before it, it finds that point's tile. -/
theorem found (c : Dev nD) (n : ℕ) (hn : n + 1 < (cfgM m hO).N) (ht : t (sz m) (n + 1) = t (sz m) n) (Y : Vec Ideal S256x2816 .bf16)
    (hY : (rdat m hO (Rl m hf hO) c).Finds 4 ⟨n + 1, hn⟩ Y) : Inv m hf c n Y := by
  have h := (Pipeline.RDat.finds_of_pos (rdat m hO (Rl m hf hO) c) (w := 4) (t := ⟨n + 1, hn⟩) (Pipeline.Window.fetch_out _ rfl _) (Nat.succ_ne_zero n) Y).1 hY
  rcases h with h | h
  · have hN : n + 1 < 79 := lt_of_lt_of_eq hn N_0
    rcases (flush4 m hf hO _).1 h with h | h
    · change n + 1 - 1 + 1 = 79 at h; omega
    · exact absurd ht h.2
  · exact Pipeline.Dat.toRRel_leaves (dats m hO 0 c) (w := 4) rfl h

/-- Two points on one tile have the same rows. -/
theorem row_congr {u v : ℕ} (h : t (sz m) u = t (sz m) v) (r : Fin 256) : row m hf u r = row m hf v r :=
  Fin.ext (congrArg (fun n => n * 256 + r.val) h)

/-- What an active point leaves keeps the relation. -/
theorem step_active (c : Dev nD) (u : ℕ) (hu : u < (cfgM m hO).N) (hact : u < total (sz m)) (v7 v9 : BitVec 32)
    (h7 : v7 = BitVec.ofNat 32 (E (sz m) (g (sz m) u))) (h9 : v9 = BitVec.ofNat 32 (t (sz m) u)) (Y : Vec Ideal S256x2816 .bf16)
    (hY : (rdat m hO (Rl m hf hO) c).Finds 4 ⟨u, hu⟩ Y) :
    Inv m hf c u (outv v7 v9 (iblk m hO c 0 ⟨u, hu⟩) (iblk m hO c 1 ⟨u, hu⟩) (iblk m hO c 2 ⟨u, hu⟩) (iblk m hO c 3 ⟨u, hu⟩) Y) := by
  intro r j hr
  obtain ⟨_, _, _, hE⟩ := step_spec (sz m) hf u
  have hg := g_lt (sz m) hf u
  have ht := t_lt (sz m) hf u
  have hE' : E (sz m) (g (sz m) u) ≤ E (sz m) (g (sz m) u + 1) := E_mono (sz m) (Nat.le_succ _)
  refine (outv_ap _ _ _ _ _ _ _ _ _).trans ?_
  by_cases hk : k0_pay2 (F := Ideal) v7 v9 (ix2 r 0) = 1#1
  · refine (show entry v7 v9 _ _ _ _ Y r j = Y (ix2 r j) from if_pos hk).trans ?_
    rw [h7, h9] at hk
    have hlt := (keep_iff _ _ (by omega) ht r).1 hk
    rcases u with _ | n
    · have := (first (sz m) hf).1; omega
    · by_cases hst : t (sz m) (n + 1) = t (sz m) n
      · have hs := stay (sz m) hf hact hst
        exact (found m hf hO c n hu hst Y hY r j (by omega)).trans (congrArg (fun R => goal m c R j) (row_congr m hf hst.symm r))
      · have := fresh (sz m) hf hact hst; omega
  · refine entry_eq m hf hO c ⟨u, hu⟩ _ _ Y r j hk ?_
    rw [h7, h9] at hk
    have hge := Nat.not_lt.1 (mt (keep_iff _ _ (by omega) ht r).2 hk)
    exact e_eq (sz m) hf (row m hf u r).isLt hge hr

/-- What an idle point leaves, what it found, keeps the relation. -/
theorem step_idle (c : Dev nD) (u : ℕ) (hu : u < (cfgM m hO).N) (hidle : total (sz m) ≤ u) (Y : Vec Ideal S256x2816 .bf16)
    (hY : (rdat m hO (Rl m hf hO) c).Finds 4 ⟨u, hu⟩ Y) : Inv m hf c u Y := by
  intro r j hr
  have htot := total_bounds (sz m) hf
  rcases u with _ | n
  · omega
  · obtain ⟨hg, ht⟩ := idle (sz m) hf hidle
    exact (found m hf hO c n hu ht Y hY r j (by rw [← hg, ← ht]; exact hr)).trans (congrArg (fun R => goal m c R j) (row_congr m hf ht.symm r))

/-- Every point keeps the relation. -/
theorem step : Step m hO hK (Rl m hf hO) := by
  rintro c ⟨u, hu⟩ Y hY
  show Inv m hf c u (bodyOut m hO hK c ⟨u, hu⟩ Y)
  have hnum : (num (grid0.coords ⟨u, hu⟩)).val = u := num_coords m hO ⟨u, hu⟩
  unfold bodyOut
  split
  case isTrue hc =>
    have hact : u < total (sz m) := by rw [← hnum]; exact (cond_iff m hf c _).1 hc
    exact step_active m hf hO c u hu hact _ _
      (wd2_eq m hf c _ (grpAt m hf u) ((wd0_eq m hf c _).trans (congrArg (fun n => BitVec.ofNat 32 (g (sz m) n)) hnum)) _)
      ((wd1_eq m hf c _).trans (congrArg (fun n => BitVec.ofNat 32 (t (sz m) n)) hnum)) Y hY
  case isFalse hc =>
    have hidle : total (sz m) ≤ u := by
      by_contra h
      exact hc ((cond_iff m hf c _).2 (by rw [hnum]; omega))
    exact step_idle m hf hO c u hu hidle Y hY

/-- Every row tile is some point's. -/
theorem tiles (v : ℕ) (hv : v < 48) : ∃ u, u < 79 ∧ t (sz m) u = v := by
  have h0 := (first (sz m) hf).2
  have hl := (last (sz m) hf (i := 78) (by have := total_bounds (sz m) hf; omega)).2
  by_contra hne
  have key : ∀ u, u < 79 → t (sz m) u < v := by
    intro u
    induction u with
    | zero =>
      intro _
      rw [h0]
      rcases Nat.eq_zero_or_pos v with h | h
      · exact absurd ⟨0, by omega, by omega⟩ hne
      · exact h
    | succ n ih =>
      intro hn
      have h1 := ih (by omega)
      have h2 : t (sz m) (n + 1) ≠ v := fun h => hne ⟨n + 1, hn, h⟩
      rcases t_next (sz m) hf n with h | h <;> omega
  have := key 78 (by omega)
  omega

/-- A tile that is written back holds the result in all its rows. -/
theorem flushed (c : Dev nD) (u : Fin (cfgM m hO).N) (hfl : ((cfgM m hO).win 4).flush u = true) (X : Vec Ideal S256x2816 .bf16)
    (hX : Inv m hf c u.val X) (r : Fin 256) (j : Fin 2816) : X (ix2 r j) = goal m c (row m hf u.val r) j := by
  refine hX r j ?_
  have htot := total_bounds (sz m) hf
  have hd : (t (sz m) u.val + 1) * 256 ≤ E (sz m) (g (sz m) u.val + 1) := by
    refine done (sz m) hf ?_
    rcases (flush4 m hf hO u).1 hfl with h | h
    · exact Or.inr (by omega)
    · exact Or.inl h.2
  have := r.isLt
  omega

/-- The blocks that the output window writes back cover the result. -/
theorem covers : ((cfgM m hO).win 4).Covers := by
  refine Pipeline.Window.covers_of_index_surj _ rfl (fun a => ?_) fun β => ?_
  · match a with
    | ⟨0, _⟩ => exact (by decide : 0 < 256)
    | ⟨1, _⟩ => exact (by decide : 0 < 2816)
  · have h0 : (β (0 : Fin 2)).val < 48 := lt_of_lt_of_eq (β (0 : Fin 2)).isLt (by decide +kernel : (12288 + 256 - 1) / 256 = 48)
    have h1 : (β (1 : Fin 2)).val < 1 := lt_of_lt_of_eq (β (1 : Fin 2)).isLt (by decide +kernel : (2816 + 2816 - 1) / 2816 = 1)
    obtain ⟨u, hu, ht⟩ := tiles m hf (β (0 : Fin 2)).val h0
    refine ⟨⟨u, lt_of_lt_of_eq hu N_0.symm⟩, fun a => (congrFun (index4 m hf hO ⟨u, lt_of_lt_of_eq hu N_0.symm⟩) a).trans ?_⟩
    match a with
    | ⟨0, _⟩ => exact ht
    | ⟨1, _⟩ => exact (Nat.lt_one_iff.1 h1).symm

/-- The result's whole array on core `c`. -/
abbrev final (c : Dev nD) : Vec Ideal S12288x2816 .bf16 :=
  result (sz m) (m ((c.tc : Thread nD τ).loc main_arg0)) (m ((c.tc : Thread nD τ).loc main_arg1)) (m ((c.tc : Thread nD τ).loc main_arg3))
    (m ((c.tc : Thread nD τ).loc main_arg4))

omit hf in
/-- Where row `r`, column `j` of the output tile at point `u` lies in the result. -/
theorem emb4 (u : Fin (cfgM m hO).N) (r : Fin 256) (j : Fin 2816) (n : ℕ) (hi : ((cfgM m hO).win 4).index u = ![n, 0])
    (R : Fin 12288) (hR : R.val = n * 256 + r.val) :
    ((((cfgM m hO).win 4).rect u).emb (ix2 r j) : S12288x2816.Idx) = ix2 R j := by
  have h : ∀ a, ((((cfgM m hO).win 4).rect u).emb (ix2 r j) a).val = ((ix2 R j : S12288x2816.Idx) a).val := by
    intro a
    refine (Pipeline.Window.rect_emb_val _ u _ a rfl).trans ?_
    refine (congrArg (fun n => n * _ + _) (congrFun hi a)).trans ?_
    match a with
    | ⟨0, _⟩ => exact hR.symm
    | ⟨1, _⟩ => show 0 * 2816 + j.val = j.val; omega
  exact funext fun a => Fin.ext (h a)

/-- A tile whose rows hold the result holds it at every index. -/
theorem tile_final (c : Dev nD) (u : Fin (cfgM m hO).N) (X : Vec Ideal S256x2816 .bf16) (hX : ∀ r j, X (ix2 r j) = goal m c (row m hf u.val r) j)
    (y : S256x2816.Idx) : X y = final m c ((((cfgM m hO).win 4).rect u).emb y : S12288x2816.Idx) := by
  obtain ⟨r, j, rfl⟩ : ∃ r j, y = ix2 r j := ⟨y 0, y 1, funext fun a => by
    match a with
    | ⟨0, _⟩ => rfl
    | ⟨1, _⟩ => rfl⟩
  exact (hX r j).trans (congrArg (final m c) (emb4 m hO u r j _ (index4 m hf hO u) (row m hf u.val r) rfl)).symm

/-- Any contents that the proof data allow the result's array to hold after the last write-back is the result. -/
theorem final_eq (c : Dev nD) (after : (w : Fin (cfgM m hO).W) → Fin (cfgM m hO).N → (((cfgM m hO).win w).block.Idx → Elt Ideal ((cfgM m hO).win w).elt))
    (hL : ∀ (w : Fin (cfgM m hO).W) (u : Fin (cfgM m hO).N), ((cfgM m hO).win w).flush u = true → (rdat m hO (Rl m hf hO) c).Leaves w u (after w u)) :
    ((rdat m hO (Rl m hf hO) c).withAfter after).arrAt 4 (cfgM m hO).N = final m c := by
  refine Pipeline.Dat.arrAt_eq_of_covers ((rdat m hO (Rl m hf hO) c).withAfter after) 4 (final m c) (covers m hf hO) fun u hfl y => ?_
  have hI : Inv m hf c u.val (after 4 u) := Pipeline.Dat.toRRel_leaves (dats m hO 0 c) (w := 4) rfl (hL 4 u hfl)
  exact tile_final m hf hO c u (after 4 u) (flushed m hf hO c u hfl (after 4 u) hI) y

omit hf in
/-- What the run says of the arrays, by proof data that name every tile written back. -/
theorem exact_of (Rl : Rel m hO) {r : PUnit × MemSt nD τ sig (Elt Ideal)}
    (h : Pipeline.RDat.FramePost ((Pipeline.pin pcfgs fun _ => adm m hO) 0) (rdat m hO Rl) (V m) r) (c : Dev nD) :
    ∃ after : (w : Fin (cfgM m hO).W) → Fin (cfgM m hO).N → (((cfgM m hO).win w).block.Idx → Elt Ideal ((cfgM m hO).win w).elt),
      (∀ (w : Fin (cfgM m hO).W) (u : Fin (cfgM m hO).N), ((cfgM m hO).win w).flush u = true → (rdat m hO Rl c).Leaves w u (after w u))
        ∧ ∀ w : Fin (cfgM m hO).W, r.2.mem (((cfgM m hO).spec w).arr.view.loc (c.tc : Thread nD τ)) = ((rdat m hO Rl c).withAfter after).arrAt w (cfgM m hO).N :=
  let ⟨after, hL, hA⟩ := Pipeline.RDat.ArrAt.exists_exact_all (rd := rdat m hO Rl c) (h c).1
  ⟨after, fun w u hf => hL w u u.isLt hf, hA⟩

/-- THE KERNEL'S VALUE: from any memory whose group sizes fit, every execution ends with the result's array holding the
    result of the arguments, and the arguments as they were. -/
theorem value : θ_run defs (onTc (τ := τ) (main (F := Ideal))) ⟨m, fun _ => 0, ρ⟩ (fun r => ∀ c : Dev nD,
      r.2.mem ((c.tc : Thread nD τ).loc main_v39) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok_of m hf
  have hK := chk_of m hf
  have hr := run_main m ρ hO hK (Rl m hf hO) (step m hf hO hK)
  refine (θ_run defs _ _).mono (fun r h c => ⟨?_, h.2.1 c⟩) (θ_run_and hr (frame m ρ hO hK))
  obtain ⟨after, hL, hA⟩ := exact_of m hO (Rl m hf hO) h.1.1 c
  exact (hA 4).trans (final_eq m hf hO c after hL)

end Cert.KernelIdeal.Grouped

end
-- ==== Proof.RI.Body.lean ====
/- What the reference's body computes: of 32 products of a row, the one that the row's group number selects, scaled. -/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Grouped

open Cert.ReferenceIdeal.Gen
open Idealize.ShloMosaic Idealize.ShloMosaic.TcCoe

/-- The first `n` selections: the last `g < n` whose word is `v` gives its value, and none gives zero. -/
def chain (v : BitVec 32) (p : ℕ → Ideal .f32) : ℕ → Ideal .f32
  | 0 => 0
  | n + 1 => Scalar.select (IntOp.cmpi .eq v (BitVec.ofNat 32 n)) (p n) (chain v p n)

/-- The selections at the word of `e` give the value of `e`. -/
theorem chain_eq (p : ℕ → Ideal .f32) (e : ℕ) (he : e < 32) : ∀ n, n ≤ 32 → e < n → chain (BitVec.ofNat 32 e) p n = p e := by
  intro n
  induction n with
  | zero => intro _ h; omega
  | succ n ih =>
    intro hn h
    show Scalar.select (IntOp.cmpi .eq (BitVec.ofNat 32 e) (BitVec.ofNat 32 n)) (p n) (chain _ p n) = p e
    rcases Nat.lt_or_ge e n with hlt | hge
    · have hne : ¬ BitVec.ofNat 32 e = BitVec.ofNat 32 n := fun hh => by
        have := congrArg BitVec.toNat hh
        simp only [BitVec.toNat_ofNat] at this
        omega
      have hc : IntOp.cmpi .eq (BitVec.ofNat 32 e) (BitVec.ofNat 32 n) = 0#1 := by
        simp only [IntOp.cmpi]
        rw [beq_eq_false_iff_ne.2 hne]
        rfl
      rw [hc, ← ih (by omega) hlt]
      rfl
    · have : e = n := by omega
      subst this
      have hc : IntOp.cmpi .eq (BitVec.ofNat 32 e) (BitVec.ofNat 32 e) = 1#1 := by simp [IntOp.cmpi]
      rw [hc]
      rfl

section
variable (X : Vec Ideal S12288x2816 .fp8e4m3) (ids : Vec Ideal S12288x1 .i32) (W : ℕ → Vec Ideal S1x2816x2816 .fp8e4m3)
variable (xs : Vec Ideal S12288x1 .f32) (ws : Vec Ideal S12288x2816 .f32) (R : Fin 12288) (c : Fin 2816)

/-- The product of row `R` with column `c` of matrix `g`. -/
def dot (g : ℕ) : Ideal .f32 := ∑ k : Fin 2816, X (ix2 R k) * W g (ix3 0 k c)

/-- The stored value at row `R`, column `c`. -/
theorem pay_ap : k0_pay1 X (k0_pay16 X (k0_pay2 ids) (k0_pay15 X (k0_pay2 ids) (k0_pay13 X (k0_pay2 ids) (k0_pay10 X (k0_pay2 ids)
    (k0_pay8 X (k0_pay2 ids) (k0_pay6 X (k0_pay2 ids) (k0_pay3 X ids (W 0) (W 1) (W 2)) (k0_pay4 X (W 3)) (k0_pay5 (F := Ideal) ids)
      (W 4) (W 5) (W 6) (W 7)) (k0_pay7 (k0_pay2 ids)) (W 8) (W 9) (W 10) (W 11) (W 12)) k0_pay9 (W 13) (W 14) (W 15) (W 16))
      (k0_pay11 (k0_pay2 ids)) (k0_pay12 X (W 17)) (W 18) (W 19) (W 20) (W 21)) (k0_pay14 (k0_pay2 ids)) (W 22) (W 23) (W 24) (W 25) (W 26))
      (W 27) (W 28) (W 29) (W 30)) (k0_pay17 (k0_pay2 ids)) (k0_pay18 (W 31)) xs ws (ix2 R c)
    = (chain (ids (ix2 R 0)) (dot X W R c) 32 * xs (ix2 R 0)) * ws (ix2 R c) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18]
  rfl
end

/-- Matrix `g` of the stack lies in it. -/
theorem mat_inb (g : ℕ) : ∀ a, (![g % 32, 0, 0] : Fin 3 → ℕ) a + S1x2816x2816.size a ≤ S32x2816x2816.size a := by
  intro a
  match a with
  | ⟨0, _⟩ => show g % 32 + 1 ≤ 32; omega
  | ⟨1, _⟩ => exact (by decide : 0 + 2816 ≤ 2816)
  | ⟨2, _⟩ => exact (by decide : 0 + 2816 ≤ 2816)

/-- Matrix `g` of the stack. -/
def mat (w : Vec Ideal S32x2816x2816 .fp8e4m3) (g : ℕ) : Vec Ideal S1x2816x2816 .fp8e4m3 :=
  View.ld w (Rect.unit (s := S32x2816x2816) ![g % 32, 0, 0] S1x2816x2816.size (mat_inb g))

theorem mat_ap (w : Vec Ideal S32x2816x2816 .fp8e4m3) (g : Fin 32) (k c : Fin 2816) : mat w g.val (ix3 0 k c) = w (ix3 g k c) := by
  refine congrArg w (funext fun a => Fin.ext ?_)
  match a with
  | ⟨0, _⟩ => show g.val % 32 + 1 * 0 = g.val; omega
  | ⟨1, _⟩ => show 0 + 1 * k.val = k.val; omega
  | ⟨2, _⟩ => show 0 + 1 * c.val = c.val; omega

/-- A load of a whole array reads it. -/
theorem ld_wide {e : EltTy} (x : Vec Ideal S12288x2816 e) : View.ld x r0_0 = x :=
  funext fun i => congrArg x (funext fun a => Fin.ext (by
    match a with
    | ⟨0, _⟩ => show 0 + 1 * (i 0).val = (i 0).val; omega
    | ⟨1, _⟩ => show 0 + 1 * (i 1).val = (i 1).val; omega))

theorem ld_tall {e : EltTy} (x : Vec Ideal S12288x1 e) : View.ld x r0_1 = x :=
  funext fun i => congrArg x (funext fun a => Fin.ext (by
    match a with
    | ⟨0, _⟩ => show 0 + 1 * (i 0).val = (i 0).val; omega
    | ⟨1, _⟩ => show 0 + 1 * (i 1).val = (i 1).val; omega))

/-- What the body leaves at row `R`, column `c`, where the row's word is that of group `e`. -/
theorem out_ap (ids : Vec Ideal S12288x1 .i32) (x : Vec Ideal S12288x2816 .fp8e4m3) (xs : Vec Ideal S12288x1 .f32)
    (w : Vec Ideal S32x2816x2816 .fp8e4m3) (ws : Vec Ideal S12288x2816 .f32) (R : Fin 12288) (c : Fin 2816) (e : Fin 32)
    (he : ids (ix2 R 0) = BitVec.ofNat 32 e.val) :
    out0_5 ids x xs w ws (ix2 R c) = ((∑ k : Fin 2816, x (ix2 R k) * w (ix3 e k c)) * xs (ix2 R 0)) * ws (ix2 R c) := by
  have hemb : (r0_0 : Rect S12288x2816).emb (ix2 R c) = ix2 R c := funext fun a => Fin.ext (by
    match a with
    | ⟨0, _⟩ => show 0 + 1 * R.val = R.val; omega
    | ⟨1, _⟩ => show 0 + 1 * c.val = c.val; omega)
  have hd : dot x (mat w) R c e.val = ∑ k : Fin 2816, x (ix2 R k) * w (ix3 e k c) :=
    Finset.sum_congr rfl fun k _ => congrArg (x (ix2 R k) * ·) (mat_ap w e k c)
  rw [← hd, ← chain_eq (dot x (mat w) R c) e.val e.isLt 32 le_rfl e.isLt, ← he, ← pay_ap x ids (mat w) xs ws R c]
  unfold out0_5 k0_pay19
  rw [ld_wide x, ld_wide ws, ld_tall ids, ld_tall xs]
  exact (congrArg _ hemb.symm).trans (View.canon_cons_emb r0_0 _ [] (ix2 R c))

end Cert.ReferenceIdeal.Grouped
-- ==== Proof.Repeat.lean ====
module

public import proofs.«01_k».proof.Proof.Words
public import Idealize.ShloMosaic.Lib.Routing.OpsOne
public import Idealize.ShloMosaic.Lib.ReduceAll

/-!
# The group of each row as the reference computes it

The reference repeats each group's number as often as the group has rows (`jnp.repeat`). On the host this is: the sizes
shifted by one place, their running sum (each group's first row), a histogram of the first rows, its running sum less
one, and a read of the group numbers there. For sizes that fit, row `R` gets the number `Plan.e s R`.
-/

@[expose] public section

namespace Cert.Grouped.Repeat

open Idealize.ShloMosaic Idealize.ShloMosaic.Routing Idealize.ShloMosaic.ValueIdx Idealize.ShloMosaic.WordCmp
open Cert.Grouped.Plan Cert.Grouped.Words

/-! ## Counting -/

/-- A histogram's running sum counts what lies at or below. -/
theorem sum_count (f : ℕ → ℕ) (n R : ℕ) :
    ((List.range (R + 1)).map fun v => Nat.count (fun i => f i = v) n).sum = Nat.count (fun i => f i ≤ R) n := by
  have add : ∀ R n, Nat.count (fun i => f i ≤ R) n + Nat.count (fun i => f i = R + 1) n = Nat.count (fun i => f i ≤ R + 1) n := by
    intro R n
    induction n with
    | zero => rfl
    | succ n ih => simp only [Nat.count_succ]; split_ifs <;> omega
  induction R with
  | zero => simp
  | succ R ih => rw [List.range_succ, List.map_append, List.sum_append, ih]; simpa using add R n

/-- Of the groups' first rows, as many lie at or below row `R` as its group's number plus one. -/
theorem count_starts (s : ℕ → ℕ) (hs : E s 32 = 12288) (R : ℕ) (hR : R < 12288) :
    Nat.count (fun i => E s i ≤ R) 32 = e s R + 1 := by
  have h1 : Nat.count (fun i => E s i ≤ R) 33 = Nat.count (fun i => E s i ≤ R) 32 := by
    rw [Nat.count_succ, if_neg (by omega)]; rfl
  have h2 : Nat.count (fun i => E s i ≤ R) 33 = Nat.count (fun i => E s (i + 1) ≤ R) 32 + 1 := by
    rw [Nat.count_succ', if_pos (by rw [E_zero]; omega)]
  unfold e
  omega

/-! ## Shapes fit -/

theorem slice1of32 : (shape1 32).Slices ![31] (shape1 1) := by decide
theorem slice31of32 : (shape1 32).Slices ![0] (shape1 31) := by decide
theorem join : Shape.Concatenates [shape1 1, shape1 31] (shape1 32) 0 := by decide
theorem bc1 : shape0.BroadcastsInDim (shape1 1) (![] : Fin 0 → Fin (shape1 1).rank) := by decide
theorem bcN : shape0.BroadcastsInDim (shape1 12288) (![] : Fin 0 → Fin (shape1 12288).rank) := by decide
theorem bcN1 : shape0.BroadcastsInDim (shape2 12288 1) (![] : Fin 0 → Fin (shape2 12288 1).rank) := by decide
theorem colN : (shape1 12288).BroadcastsInDim (shape2 12288 1) (![0] : Fin 1 → Fin (shape2 12288 1).rank) := by decide
theorem row11 : (shape1 1).BroadcastsInDim (shape2 1 1) (![1] : Fin 1 → Fin (shape2 1 1).rank) := by decide
theorem rowsN1 : (shape2 1 1).BroadcastsInDim (shape2 12288 1) (![0, 1] : Fin 2 → Fin (shape2 12288 1).rank) := by decide
theorem winN : (shape1 12288).ReduceWindows (![12288] : Fin 1 → Nat) ![1] ![12287] ![0] (shape1 12288) := by decide
theorem redN : (shape2 12288 1).ReducesTo [1] (shape1 12288) := by decide
theorem castN : (shape1 12288).ShapeCasts (shape2 12288 1) := by decide
theorem set_wf : ScatterDims.WF (shape1 32) (shape1 1) shape0 [] [0] [0] 0 := by decide
theorem hist_wf : ScatterDims.WF (shape1 12288) (shape2 32 1) (shape1 32) [] [0] [0] 1 := by decide
theorem takeN_wf : GatherDims.WF (shape1 32) (shape2 12288 1) (shape1 12288) [] [0] [] [0] [] 1 ![1] := by decide
theorem rows_wf : GatherDims.WF (shape2 32 2816) (shape2 12288 1) (shape2 12288 2816) [1] [0] [] [0] [] 1 ![1, 2816] := by decide

/-- A write of one entry. -/
def setDims : ScatterDims (shape1 32) (shape1 1) shape0 where
  updateWindowDims := []
  insertedWindowDims := [0]
  scatterDimsToOperandDims := [0]
  indexVectorDim := 0
  wf := set_wf
/-- A histogram of `32` places over `12288` rows. -/
def histDims : ScatterDims (shape1 12288) (shape2 32 1) (shape1 32) where
  updateWindowDims := []
  insertedWindowDims := [0]
  scatterDimsToOperandDims := [0]
  indexVectorDim := 1
  wf := hist_wf
/-- A read of a table of `32` entries at `12288` places. -/
def takeN : GatherDims (shape1 32) (shape2 12288 1) (shape1 12288) where
  offsetDims := []
  collapsedSliceDims := [0]
  operandBatchingDims := []
  startIndicesBatchingDims := []
  startIndexMap := [0]
  indexVectorDim := 1
  sliceSizes := ![1]
  wf := takeN_wf
/-- A read of rows of a `[32, 2816]` table at `12288` places. -/
def rows : GatherDims (shape2 32 2816) (shape2 12288 1) (shape2 12288 2816) where
  offsetDims := [1]
  collapsedSliceDims := [0]
  operandBatchingDims := []
  startIndicesBatchingDims := []
  startIndexMap := [0]
  indexVectorDim := 1
  sliceSizes := ![1, 2816]
  wf := rows_wf

/-! ## The computations -/

/-- One word at all rows. -/
noncomputable def cN (v : BitVec 32) : IVec (shape1 12288) 32 := broadcastInDim (shape1 12288) ![] bcN (constantI shape0 32 v)

variable (x : IVec (shape1 32) 32)

/-- The sizes, the last one moved to the front. -/
noncomputable def roll : IVec (shape1 32) 32 :=
  concatenate (shape1 32) 0 [⟨shape1 1, extractStridedSlice (shape1 1) ![31] x slice1of32⟩,
    ⟨shape1 31, extractStridedSlice (shape1 31) ![0] x slice31of32⟩] join
/-- The sizes moved by one place, zero in front. -/
noncomputable def shifted : IVec (shape1 32) 32 :=
  Host.scatter setDims (fun _ b => b) (roll x) (broadcastInDim (shape1 1) ![] bc1 (constantI shape0 32 0#32)) (constantI shape0 32 0#32)
/-- The first row of each group. -/
noncomputable def firsts : IVec (shape1 32) 32 := cum (shifted x)
/-- A negative row counts from the end. -/
noncomputable def wrap32 (y : IVec (shape1 32) 32) : IVec (shape1 32) 32 := select (cmpi .slt y (c32 0#32)) (addi y (c32 12288#32)) y
/-- How many groups begin at each row. -/
noncomputable def hist : IVec (shape1 12288) 32 :=
  Host.scatter histDims IntOp.addi (cN 0#32) (broadcastInDim (shape2 32 1) ![0] col32 (wrap32 (firsts x))) (c32 1#32)
/-- How many groups begin at or before each row, less one. -/
noncomputable def place : IVec (shape1 12288) 32 :=
  subi (Host.reduceWindow IntOp.addi ![12288] ![1] ![12287] ![0] (hist x) (broadcastInDim shape0 ![] bc00 (constantI shape0 32 0#32)) winN pos0) (cN 1#32)
/-- A negative place counts from the end. -/
noncomputable def wrapN (y : IVec (shape1 12288) 32) : IVec (shape1 12288) 32 := select (cmpi .slt y (cN 0#32)) (addi y (cN 32#32)) y
/-- Places as a column. -/
noncomputable def column (y : IVec (shape1 12288) 32) : IVec (shape2 12288 1) 32 := broadcastInDim (shape2 12288 1) ![0] colN y
/-- The places that lie in the table. -/
noncomputable def inside (y : IVec (shape2 12288 1) 32) : IVec (shape2 12288 1) 1 :=
  andi (cmpi .sge y (broadcastInDim (shape2 12288 1) ![] bcN1 (constantI shape0 32 0#32)))
    (cmpi .sle y (broadcastInDim (shape2 12288 1) ![0, 1] rowsN1 (broadcastInDim (shape2 1 1) ![1] row11 (constantI (shape1 1) 32 31#32))))
/-- The group of each row. -/
noncomputable def ids : IVec (shape1 12288) 32 :=
  select (Host.reduce IntOp.andi (inside (column (wrapN (place x)))) (constantI shape0 1 1#1) redN pos0)
    (Host.gather takeN (iotaInDim (shape1 32) 32 0) (column (wrapN (place x)))) (cN 2147483648#32)
/-- The group of each row, as a column. -/
noncomputable def idsColumn : IVec (shape2 12288 1) 32 := shapeCast (shape2 12288 1) (ids x) castN
/-- The scales of each row's group. -/
noncomputable def scaleRows {α : Type} (ws : (shape2 32 2816).Idx → α) : (shape2 12288 2816).Idx → α :=
  Host.gather rows ws (column (wrapN (ids x)))

/-! ## What the words stand for -/

/-- An update of a histogram lands at the row that its word names. -/
theorem lands (idx : IVec (shape2 32 1) 32) (gi : ℕ → ℕ) (hg : ∀ i : Fin 32, idx (ix2 i (0 : Fin 1)) = BitVec.ofNat 32 (gi i.val))
    (hg31 : ∀ i : Fin 32, gi i.val < 2 ^ 31) (i : Fin 32) (R : Fin 12288) :
    histDims.resultIdx? (ix1 i) idx = some (ix1 R) ↔ gi i.val = R.val := by
  have hm : (0 : Fin 1) ∈ histDims.scatterDimsToOperandDims := List.mem_singleton.2 rfl
  have hwin : histDims.window (ix1 i) 0 = 0 := by
    unfold ScatterDims.window
    rw [dif_neg fun h => (of_decide_eq_true (List.mem_filter.1 h).2) (List.mem_singleton.2 rfl)]
  have hstart : histDims.start (ix1 i) idx 0 = (gi i.val : Int) := by
    unfold ScatterDims.start
    rw [dif_pos hm]
    have hsi : histDims.siIdx (ix1 i) ⟨histDims.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by exact Nat.zero_ne_one)]
        unfold ScatterDims.siCoord
        simp only [Fin.val_cast]
        have e : ∀ X : Fin 1, (ix1 i X).val = i.val := fun X => by
          obtain rfl : X = 0 := Subsingleton.elim _ _
          rfl
        exact e _
      | ⟨1, _⟩ =>
        unfold ScatterDims.siIdx
        rw [dif_pos (by rfl)]
        rfl
    rw [hsi, hg, StableHlo.Predicate.toInt_ofNat_small _ (hg31 i)]
  rw [resultIdx?_ix1, hstart, hwin]
  omega

section Values
variable {s : ℕ → ℕ} (hx : ∀ i : Fin 32, x (ix1 i) = BitVec.ofNat 32 (s i.val)) (hs : E s 32 = 12288)
include hx hs

theorem shifted_ap (i : Fin 32) : shifted x (ix1 i) = BitVec.ofNat 32 (if i.val = 0 then 0 else s (i.val - 1)) := by
  unfold shifted
  rw [scatter_one setDims rfl rfl _ _ _ (0 : Fin 32) (by decide) (bc0 _ _ _) i]
  by_cases h : i = 0
  · subst h; rfl
  · have h0 : i.val ≠ 0 := fun h' => h (Fin.ext h')
    have hlt := i.isLt
    rw [if_neg h, if_neg h0]
    unfold roll
    rw [concatenate_pair_apply_right (s₁ := shape1 1) (s₂ := shape1 31) (0 : Fin 1) _ _ join (ix1 i) rfl rfl (ix1 ⟨i.val - 1, by omega⟩)
      (fun b hb => absurd (Subsingleton.elim (α := Fin 1) _ _) hb) (by show i.val - 1 + 1 = i.val; omega),
      slice1 0 _ _ _ (by show 0 + (i.val - 1) < 32; omega)]
    refine (hx _).trans ?_
    show BitVec.ofNat 32 (s (0 + (i.val - 1))) = _
    rw [Nat.zero_add]

theorem firsts_ap (i : Fin 32) : firsts x (ix1 i) = BitVec.ofNat 32 (E s i.val) := by
  have sum : ∀ j, ((List.range (j + 1)).map fun k => if k = 0 then 0 else s (k - 1)).sum = E s j := fun j => by
    induction j with
    | zero => rfl
    | succ j ih => rw [List.range_succ, List.map_append, List.sum_append, ih, E_succ]; simp
  have h := cumsum1 (N := 32) (Nm1 := 31) rfl (shifted x) (fun k => if k = 0 then 0 else s (k - 1)) (shifted_ap x hx hs)
    (broadcastInDim shape0 ![] bc00 (constantI shape0 32 0#32)) (bc0 _ _ _) win32 pos0 i
  rw [sum] at h
  exact h

theorem wrap_ap (i : Fin 32) : wrap32 (firsts x) (ix1 i) = BitVec.ofNat 32 (E s i.val) := by
  have hE := E_le x hx hs i.val i.isLt.le
  unfold wrap32
  rw [select_at, cmpi_at, show c32 0#32 (ix1 i) = 0#32 from bc0 _ _ _, firsts_ap x hx hs, wrap_of_lt]
  rw [BitVec.toNat_ofNat, Nat.mod_eq_of_lt (by omega)]
  omega

theorem hist_ap (R : Fin 12288) : hist x (ix1 R) = BitVec.ofNat 32 (Nat.count (fun i => E s i = R.val) 32) := by
  have hidx : ∀ i : Fin 32, broadcastInDim (shape2 32 1) ![0] col32 (wrap32 (firsts x)) (ix2 i (0 : Fin 1)) = BitVec.ofNat 32 (E s i.val) := fun i => by
    rw [bcCol, wrap_ap x hx hs]
  have h31 : ∀ i : Fin 32, E s i.val < 2 ^ 31 := fun i => by have := E_le x hx hs i.val i.isLt.le; omega
  have h := scatter_at histDims IntOp.addi (cN 0#32) (broadcastInDim (shape2 32 1) ![0] col32 (wrap32 (firsts x))) (c32 1#32) (ix1 R)
  refine h.trans ?_
  have hf := foldl_count (I := Unit) (fun (r : Unit → BitVec 32) (n : Fin (shape1 32).numel) => fun _ =>
      if histDims.resultIdx? ((shape1 32).rowMajor.symm n) (broadcastInDim (shape2 32 1) ![0] col32 (wrap32 (firsts x))) = some (ix1 R)
      then IntOp.addi (r ()) (c32 1#32 ((shape1 32).rowMajor.symm n)) else r ()) () (fun n => decide (E s n.val = R.val)) (fun r n => by
        have hl := lands _ (E s) hidx h31 (n.cast (numel1 32)) R
        have h1 : c32 1#32 ((shape1 32).rowMajor.symm n) = 1#32 := bc0 _ _ _
        rw [h1, symm1]
        by_cases hh : E s n.val = R.val
        · rw [if_pos (hl.2 hh), if_pos (decide_eq_true hh)]
        · rw [if_neg fun h' => hh (hl.1 h'), if_neg fun h' => hh (of_decide_eq_true h')])
    (List.finRange (shape1 32).numel) (fun _ => 0#32) 0 rfl
  rw [Nat.zero_add, countP_finRange _ (fun i => E s i = R.val)] at hf
  replace hf := hf.trans (congrArg (fun n => BitVec.ofNat 32 (Nat.count (fun i => E s i = R.val) n)) (numel1 32))
  refine Eq.trans ?_ hf
  rw [show cN 0#32 (ix1 R) = 0#32 from bc0 _ _ _]
  clear hf h
  generalize List.finRange (shape1 32).numel = l
  generalize 0#32 = z
  induction l generalizing z with
  | nil => rfl
  | cons n l ih => rw [List.foldl_cons, List.foldl_cons]; exact ih _

theorem place_ap (R : Fin 12288) : place x (ix1 R) = BitVec.ofNat 32 (e s R.val) := by
  have h := cumsum1 (N := 12288) (Nm1 := 12287) rfl (hist x) (fun v => Nat.count (fun i => E s i = v) 32) (hist_ap x hx hs)
    (broadcastInDim shape0 ![] bc00 (constantI shape0 32 0#32)) (bc0 _ _ _) winN pos0 R
  rw [sum_count, count_starts s hs R.val R.isLt] at h
  unfold place
  rw [subi_ap, h, show cN 1#32 (ix1 R) = BitVec.ofNat 32 1 from bc0 _ _ _, ofNat32_sub (by omega), Nat.add_sub_cancel]

/-- A wrap leaves words of group numbers. -/
theorem wrapN_ap (y : IVec (shape1 12288) 32) (hy : ∀ R : Fin 12288, y (ix1 R) = BitVec.ofNat 32 (e s R.val)) (R : Fin 12288) :
    column (wrapN y) (ix2 R (0 : Fin 1)) = BitVec.ofNat 32 (e s R.val) := by
  have he := (e_spec s hs R.isLt).1
  unfold column wrapN
  rw [bcCol, select_at, cmpi_at, show cN 0#32 (ix1 R) = 0#32 from bc0 _ _ _, hy, wrap_of_lt]
  rw [BitVec.toNat_ofNat, Nat.mod_eq_of_lt (by omega)]
  omega

theorem ids_ap (R : Fin 12288) : ids x (ix1 R) = BitVec.ofNat 32 (e s R.val) := by
  have hc := wrapN_ap x hx hs (place x) (place_ap x hx hs)
  have hin : ∀ i, inside (column (wrapN (place x))) i = 1#1 := fun i => by
    obtain ⟨Q, q, rfl⟩ : ∃ (Q : Fin 12288) (q : Fin 1), i = ix2 Q q := ⟨i 0, i 1, by funext a; match a with | ⟨0, _⟩ => rfl | ⟨1, _⟩ => rfl⟩
    obtain rfl : q = 0 := Subsingleton.elim _ _
    have he := (e_spec s hs Q.isLt).1
    show IntOp.andi (IntOp.cmpi .sge (column (wrapN (place x)) (ix2 Q 0)) 0#32) (IntOp.cmpi .sle (column (wrapN (place x)) (ix2 Q 0)) 31#32) = 1#1
    rw [hc]
    generalize e s Q.val = k at he
    revert k
    decide
  unfold ids
  rw [select_at, Host.reduce_andi_one _ _ _ _ _ rfl hin]
  refine Eq.trans (show _ = Host.gather takeN (iotaInDim (shape1 32) 32 0) (column (wrapN (place x))) (ix1 R) from rfl) ?_
  refine (take_ap takeN rfl rfl rfl rfl _ _ R (e_spec s hs R.isLt).1 (by have := (e_spec s hs R.isLt).1; omega) (hc R)).trans rfl

theorem idsColumn_ap (R : Fin 12288) : idsColumn x (ix2 R (0 : Fin 1)) = BitVec.ofNat 32 (e s R.val) := by
  unfold idsColumn
  rw [cast12 _ _ R (0 : Fin 1) R (by show R.val = R.val * 1 + 0; omega), ids_ap x hx hs]

theorem scaleRows_ap {α : Type} (ws : (shape2 32 2816).Idx → α) (R : Fin 12288) (c : Fin 2816) (b : Fin 32) (hb : b.val = e s R.val) :
    scaleRows x ws (ix2 R c) = ws (ix2 b c) :=
  gather_row rows rfl rfl rfl rfl rfl ws _ R c b (by rw [wrapN_ap x hx hs (ids x) (ids_ap x hx hs), hb]) (by decide)

end Values

end Cert.Grouped.Repeat
-- ==== Proof.RI.Tables.lean ====
/- What the reference's host operations hand to its body: each row's group number and its group's scales. -/
module

public import proofs.«01_k».proof.Proof.Gen.ReferenceIdeal.Value
public import proofs.«01_k».proof.Proof.Repeat
public import Idealize.ShloMosaic.Lib.StableHlo.RunRead

@[expose] public section

set_option maxRecDepth 16384

namespace Cert.ReferenceIdeal.Grouped

open Cert.ReferenceIdeal.Gen
open Idealize.ShloMosaic Idealize.ShloMosaic.TcCoe
open Cert.Grouped

variable {F : FTy → Type} [FloatOps F] (m : (ℓ : Loc nD τ sig) → Buf (Elt F) ℓ)

/-- The group sizes as launched. -/
abbrev sizes (c : Dev nD) : IVec (Routing.shape1 32) 32 := m ((c : Thread nD τ).loc main_arg2)

set_option maxHeartbeats 1600000 in
theorem V_ids (c : Dev nD) : V m c main_v18 = Repeat.idsColumn (sizes m c) := by
  unfold V
  after_reads_simp
  simp -implicitDefEqProofs only [StableHlo.TRef.ofBuf_toBuf]
  simp -implicitDefEqProofs only [StableHlo.TRef.ofBuf, StableHlo.TRef.toBuf, cast_eq, id_eq]
  unfold Repeat.idsColumn Repeat.ids Repeat.inside Repeat.column Repeat.wrapN Repeat.place Repeat.hist Repeat.wrap32 Repeat.firsts Repeat.shifted Repeat.roll Repeat.cN Words.cum Words.c32
  rfl

set_option maxHeartbeats 1600000 in
theorem V_scaleRows (c : Dev nD) : V m c main_v25
    = Repeat.scaleRows (sizes m c) (m ((c : Thread nD τ).loc main_arg4) : (⟨S32x2816, .f32⟩ : BufTy).Contents (Elt F)) := by
  unfold V
  after_reads_simp
  simp -implicitDefEqProofs only [StableHlo.TRef.ofBuf_toBuf]
  simp -implicitDefEqProofs only [StableHlo.TRef.ofBuf, StableHlo.TRef.toBuf, cast_eq, id_eq]
  unfold Repeat.scaleRows Repeat.ids Repeat.inside Repeat.column Repeat.wrapN Repeat.place Repeat.hist Repeat.wrap32 Repeat.firsts Repeat.shifted Repeat.roll Repeat.cN Words.cum Words.c32
  rfl

end Cert.ReferenceIdeal.Grouped
-- ==== Proof.RI.Value.lean ====
/- What the reference leaves in its result: the product of every row with its group's matrix, scaled. -/
module

public import proofs.«01_k».proof.Proof.RI.Body
public import proofs.«01_k».proof.Proof.RI.Tables
public import proofs.«01_k».proof.Proof.Sizes
public import Idealize.ShloMosaic.Lib.Pipeline.ValueKit.Geometry

@[expose] public section

set_option maxRecDepth 16384

noncomputable section

namespace Cert.ReferenceIdeal.Grouped

open Cert.ReferenceIdeal.Gen
open Idealize.ShloMosaic Idealize.ShloMosaic.TcCoe Idealize.SL.Sem
open Cert.Grouped

variable (m : (ℓ : Loc nD τ sig) → Buf (Elt Ideal) ℓ)

/-- The group sizes as naturals. -/
abbrev sz : ℕ → ℕ := nat (sizes m 0)

/-- The result's whole array. -/
abbrev final (c : Dev nD) : Vec Ideal S12288x2816 .bf16 :=
  result (sz m) (m ((c.tc : Thread nD τ).loc main_arg0)) (m ((c.tc : Thread nD τ).loc main_arg1)) (m ((c.tc : Thread nD τ).loc main_arg3))
    (m ((c.tc : Thread nD τ).loc main_arg4))

/-! Every window is its whole array. -/

theorem read0 (A : Vec Ideal S12288x1 .i32) (t : Fin cfg0.N) : (((cfg0.win 0).blk t).view.read (Elt Ideal) A : Vec Ideal S12288x1 .i32) = A := by
  funext i
  have h : ∀ a, (((cfg0.win 0).rect t).emb i a).val = (i a).val := fun a => by
    refine (Pipeline.Window.rect_emb_val _ t _ a rfl).trans ?_
    show 0 * _ + (i a).val = (i a).val
    omega
  exact congrArg A (funext fun a => Fin.ext (h a))

theorem read1 (A : Vec Ideal S12288x2816 .fp8e4m3) (t : Fin cfg0.N) : (((cfg0.win 1).blk t).view.read (Elt Ideal) A : Vec Ideal S12288x2816 .fp8e4m3) = A := by
  funext i
  have h : ∀ a, (((cfg0.win 1).rect t).emb i a).val = (i a).val := fun a => by
    refine (Pipeline.Window.rect_emb_val _ t _ a rfl).trans ?_
    show 0 * _ + (i a).val = (i a).val
    omega
  exact congrArg A (funext fun a => Fin.ext (h a))

theorem read2 (A : Vec Ideal S12288x1 .f32) (t : Fin cfg0.N) : (((cfg0.win 2).blk t).view.read (Elt Ideal) A : Vec Ideal S12288x1 .f32) = A := by
  funext i
  have h : ∀ a, (((cfg0.win 2).rect t).emb i a).val = (i a).val := fun a => by
    refine (Pipeline.Window.rect_emb_val _ t _ a rfl).trans ?_
    show 0 * _ + (i a).val = (i a).val
    omega
  exact congrArg A (funext fun a => Fin.ext (h a))

theorem read3 (A : Vec Ideal S32x2816x2816 .fp8e4m3) (t : Fin cfg0.N) : (((cfg0.win 3).blk t).view.read (Elt Ideal) A : Vec Ideal S32x2816x2816 .fp8e4m3) = A := by
  funext i
  have h : ∀ a, (((cfg0.win 3).rect t).emb i a).val = (i a).val := fun a => by
    refine (Pipeline.Window.rect_emb_val _ t _ a rfl).trans ?_
    show 0 * _ + (i a).val = (i a).val
    omega
  exact congrArg A (funext fun a => Fin.ext (h a))

theorem read4 (A : Vec Ideal S12288x2816 .f32) (t : Fin cfg0.N) : (((cfg0.win 4).blk t).view.read (Elt Ideal) A : Vec Ideal S12288x2816 .f32) = A := by
  funext i
  have h : ∀ a, (((cfg0.win 4).rect t).emb i a).val = (i a).val := fun a => by
    refine (Pipeline.Window.rect_emb_val _ t _ a rfl).trans ?_
    show 0 * _ + (i a).val = (i a).val
    omega
  exact congrArg A (funext fun a => Fin.ext (h a))

theorem emb5 (t : Fin cfg0.N) (i : S12288x2816.Idx) : (((cfg0.win 5).rect t).emb i : S12288x2816.Idx) = i := by
  have h : ∀ a, (((cfg0.win 5).rect t).emb i a).val = (i a).val := fun a => by
    refine (Pipeline.Window.rect_emb_val _ t _ a rfl).trans ?_
    show 0 * _ + (i a).val = (i a).val
    omega
  exact funext fun a => Fin.ext (h a)

variable (hf : Fits (sizes m 0))
include hf

/-- What the body leaves, at row `R`, column `j`. -/
theorem after_ap (c : Dev nD) (t : Fin cfg0.N) (R : Fin 12288) (j : Fin 2816) :
    ((dats m 0 c).after 5 t : Vec Ideal S12288x2816 .bf16) (ix2 R j) = final m c (ix2 R j) := by
  have hlt : Plan.e (sz m) R.val < 32 := (Plan.e_spec (sz m) hf R.isLt).1
  have hg : (grp (sz m) R.val).val = Plan.e (sz m) R.val := Nat.mod_eq_of_lt hlt
  have hsz : ∀ i : Fin 32, (sizes m c) (ix1 i) = BitVec.ofNat 32 (sz m i.val) := by
    obtain rfl : c = 0 := Subsingleton.elim _ _
    exact nat_spec (sizes m 0)
  have h0 : iblk m c 0 t = Repeat.idsColumn (sizes m c) := (read0 _ t).trans (V_ids m c)
  have h1 : iblk m c 1 t = m ((c : Thread nD τ).loc main_arg0) := (read1 _ t).trans (V_main_arg0 m c)
  have h2 : iblk m c 2 t = m ((c : Thread nD τ).loc main_arg1) := (read2 _ t).trans (V_main_arg1 m c)
  have h3 : iblk m c 3 t = m ((c : Thread nD τ).loc main_arg3) := (read3 _ t).trans (V_main_arg3 m c)
  have h4 : iblk m c 4 t = Repeat.scaleRows (sizes m c) (m ((c : Thread nD τ).loc main_arg4) : Vec Ideal S32x2816 .f32) :=
    (read4 _ t).trans (V_scaleRows m c)
  refine (congrFun (after0_5 m c t) (ix2 R j)).trans ?_
  rw [h0, h1, h2, h3, h4]
  refine (out_ap _ _ _ _ _ R j (grp (sz m) R.val) ((Repeat.idsColumn_ap _ hsz hf R).trans (congrArg _ hg.symm))).trans ?_
  exact congrArg (_ * ·) (Repeat.scaleRows_ap _ hsz hf _ R j (grp (sz m) R.val) hg)

/-- The array after the run. -/
theorem arr_eq (c : Dev nD) : (dats m 0 c).arrAt 5 cfg0.N = final m c := by
  refine Pipeline.Dat.arrAt_eq_of_covers (dats m 0 c) 5 (final m c) (by decide +kernel) fun t _ y => ?_
  obtain ⟨R, j, rfl⟩ : ∃ R j, y = ix2 R j := ⟨y 0, y 1, funext fun a => by
    match a with
    | ⟨0, _⟩ => rfl
    | ⟨1, _⟩ => rfl⟩
  exact (after_ap m hf c t R j).trans (congrArg (final m c) (emb5 t (ix2 R j))).symm

/-- The reference's run: its result is the grouped product, its arguments as launched. -/
theorem value (ρ : Dev nD → PrngReg) : θ_run defs (onTc (τ := τ) (main (F := Ideal))) ⟨m, fun _ => 0, ρ⟩ fun r => ∀ c : Dev nD,
    r.2.mem ((c.tc : Thread nD τ).loc main_v26) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (arr_eq m hf c), (h c).2⟩) (Value.run_blocks m ρ)

end Cert.ReferenceIdeal.Grouped
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_fit
public import proofs.«01_k».proof.Proof.K.Facts
public import proofs.«01_k».proof.Proof.KI.Facts
public import proofs.«01_k».proof.Proof.KI.Value
public import proofs.«01_k».proof.Proof.RI.Value
public import Idealize.ShloMosaic.Adequacy
public import Idealize.ShloMosaic.Init

@[expose] public section

noncomputable section

namespace Cert.Proof

open Idealize.ShloMosaic Idealize.SL.Sem Cert.Kernel

/-- The kernel runs without fault and leaves its arguments as they were. -/
theorem frame_Kernel [Cert.Pre_sizes_fit.Facts] : Cert.quiescent_Kernel := fun m ρ hp =>
  have hf : Cert.Grouped.Fits (Cert.Kernel.Grouped.sizes m 0) := Cert.Grouped.fits_of_pre _ _ _ _ _ (hp 0)
  Cert.Kernel.Grouped.frame m ρ (Cert.Kernel.Grouped.ok_of m hf) (Cert.Kernel.Grouped.chk_of m hf)

/-- So does the kernel over the extended reals. -/
theorem frame_KernelIdeal [Cert.Pre_sizes_fit.Facts] : Cert.quiescent_KernelIdeal := fun m ρ hp =>
  have hf : Cert.Grouped.Fits (Cert.KernelIdeal.Grouped.sizes m 0) := Cert.Grouped.fits_of_pre _ _ _ _ _ (hp 0)
  Cert.KernelIdeal.Grouped.frame m ρ (Cert.KernelIdeal.Grouped.ok_of m hf) (Cert.KernelIdeal.Grouped.chk_of m hf)

/-- And the reference, for any group sizes. -/
theorem frame_ReferenceIdeal : Cert.quiescent_ReferenceIdeal := fun m ρ _ =>
  Cert.ReferenceIdeal.Gen.frame m ρ

/-- In particular for group sizes that add up to the number of rows. -/
theorem frame_ReferenceIdeal_fit [Cert.Pre_sizes_fit.Facts] : Cert.quiescent_ReferenceIdeal_pre_sizes_fit := fun m ρ _ =>
  Cert.ReferenceIdeal.Gen.frame m ρ

/-- From memories that agree on the arguments, kernel and reference end with the same result: both leave
    `Cert.Grouped.result` of the arguments. -/
theorem algebraic [Cert.Pre_sizes_fit.Facts] : Cert.algebraic_KernelIdeal_ReferenceIdeal := fun m g m' g' hp hargs =>
  have hf : Cert.Grouped.Fits (Cert.KernelIdeal.Grouped.sizes m 0) := Cert.Grouped.fits_of_pre _ _ _ _ _ (hp 0)
  have hsz : Cert.ReferenceIdeal.Grouped.sizes m' 0 = Cert.KernelIdeal.Grouped.sizes m 0 := (hargs 0).2.2.1
  have hf' : Cert.Grouped.Fits (Cert.ReferenceIdeal.Grouped.sizes m' 0) := by rw [hsz]; exact hf
  have heq : ∀ c, Cert.ReferenceIdeal.Grouped.final m' c = Cert.KernelIdeal.Grouped.final m c := fun c => by
    obtain ⟨h0, h1, _, h3, h4⟩ := hargs c
    show Cert.Grouped.result (Cert.Grouped.nat (Cert.ReferenceIdeal.Grouped.sizes m' 0)) _ _ _ _
      = Cert.Grouped.result (Cert.Grouped.nat (Cert.KernelIdeal.Grouped.sizes m 0)) _ _ _ _
    rw [hsz, h0, h1, h3, h4]
  ⟨fun c => Cert.KernelIdeal.Grouped.final m c, Cert.KernelIdeal.Grouped.value m g hf,
    (θ_run _ _ _).mono (fun _ h c => ⟨(h c).1.trans (heq c), (h c).2⟩) (Cert.ReferenceIdeal.Grouped.value m' hf' g')⟩

theorem claim : Cert.Claim := ⟨Cert.Kernel.Gen.facts, Cert.KernelIdeal.Gen.facts, Cert.ReferenceIdeal.Gen.facts, Cert.Pre_sizes_fit.Gen.facts,
  frame_Kernel, frame_KernelIdeal, frame_ReferenceIdeal, frame_ReferenceIdeal_fit, trivial, algebraic⟩

end Cert.Proof

end
